-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  IdealRules.named_const.Statement Cert.KernelIdeal.κ "slope" .bf16 0x3E4D#16 ((13421773 / 67108864 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v570) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x200x192 : Shape := ⟨3, ![16, 200, 192]⟩
abbrev S4x200x200 : Shape := ⟨3, ![4, 200, 200]⟩
abbrev S16x256 : Shape := ⟨2, ![16, 256]⟩
abbrev S256 : Shape := ⟨1, ![256]⟩
abbrev S8x256x64 : Shape := ⟨3, ![8, 256, 64]⟩
abbrev S8x64 : Shape := ⟨2, ![8, 64]⟩
abbrev S1024x256 : Shape := ⟨2, ![1024, 256]⟩
abbrev S3x256x128 : Shape := ⟨3, ![3, 256, 128]⟩
abbrev S3x128x128 : Shape := ⟨3, ![3, 128, 128]⟩
abbrev S3x128 : Shape := ⟨2, ![3, 128]⟩
abbrev S1280x256 : Shape := ⟨2, ![1280, 256]⟩
abbrev S256x8 : Shape := ⟨2, ![256, 8]⟩
abbrev S8 : Shape := ⟨1, ![8]⟩
abbrev S_ : Shape := ⟨0, ![]⟩
abbrev S4x200 : Shape := ⟨2, ![4, 200]⟩

class Facts : Prop where
  bcast_S_S16x200x192 : S_.BroadcastsInDim S16x200x192 (![] : Fin 0 → Fin S16x200x192.rank)
  bcast_S_S4x200x200 : S_.BroadcastsInDim S4x200x200 (![] : Fin 0 → Fin S4x200x200.rank)
  bcast_S_S16x256 : S_.BroadcastsInDim S16x256 (![] : Fin 0 → Fin S16x256.rank)
  bcast_S_S256 : S_.BroadcastsInDim S256 (![] : Fin 0 → Fin S256.rank)
  bcast_S_S8x256x64 : S_.BroadcastsInDim S8x256x64 (![] : Fin 0 → Fin S8x256x64.rank)
  bcast_S_S8x64 : S_.BroadcastsInDim S8x64 (![] : Fin 0 → Fin S8x64.rank)
  reducesTo_S4x200x200_S4x200_d2 : S4x200x200.ReducesTo [2] S4x200
  h_S_ : 0 < S_.numel
  bcast_S_S4x200 : S_.BroadcastsInDim S4x200 (![] : Fin 0 → Fin S4x200.rank)

variable [Facts]

def fn_part2 {F : FTy → Type} [FloatOps F] (main_arg1 : FVec F S4x200x200 .f32) (main_v2 : IVec S16x200x192 1) (main_v5 : IVec S4x200x200 1) (main_v8 : IVec S16x256 1) (main_v11 : IVec S256 1) (main_v14 : IVec S256 1) (main_v17 : IVec S256 1) (main_v20 : IVec S8x256x64 1) (main_v23 : IVec S8x64 1) (main_v26 : IVec S8x64 1) (main_v29 : IVec S8x256x64 1) (main_v32 : IVec S8x64 1) (main_v35 : IVec S8x64 1) : IVec S16x200x192 1 × IVec S4x200x200 1 × IVec S16x256 1 × IVec S256 1 × IVec S256 1 × IVec S256 1 × IVec S8x256x64 1 × IVec S8x64 1 × IVec S8x64 1 × IVec S8x256x64 1 × IVec S8x64 1 × IVec S8x64 1 × IVec S4x200 1 :=
  let main_cst_11 : FVec F S_ .f32 := constant S_ .f32 0x00000000#32
  let main_v36 : FVec F S4x200 .f32 := (fun x v => Host.reduceAdd x v reducesTo_S4x200x200_S4x200_d2 h_S_) main_arg1 main_cst_11
  let main_cst_12 : FVec F S_ .f32 := constant S_ .f32 0x358637BD#32
  let main_v37 : FVec F S4x200 .f32 := broadcastInDim S4x200 ![] bcast_S_S4x200 main_cst_12
  let main_v38 : FVec F S4x200 .f32 := addf main_v36 main_v37
  let main_cst_13 : FVec F S_ .f32 := constant S_ .f32 0x00000000#32
  let main_v39 : FVec F S4x200 .f32 := broadcastInDim S4x200 ![] bcast_S_S4x200 main_cst_13
  let main_v40 : IVec S4x200 1 := cmpf .une main_v38 main_v39
  (main_v2, main_v5, main_v8, main_v11, main_v14, main_v17, main_v20, main_v23, main_v26, main_v29, main_v32, main_v35, main_v40)

def fn_part1 {F : FTy → Type} [FloatOps F] (main_arg1 : FVec F S4x200x200 .f32) (main_arg6 : FVec F S8x256x64 .f32) (main_arg7 : FVec F S8x64 .f32) (main_arg8 : FVec F S8x64 .f32) (main_arg9 : FVec F S8x256x64 .f32) (main_arg10 : FVec F S8x64 .f32) (main_arg11 : FVec F S8x64 .f32) (main_v2 : IVec S16x200x192 1) (main_v5 : IVec S4x200x200 1) (main_v8 : IVec S16x256 1) (main_v11 : IVec S256 1) (main_v14 : IVec S256 1) (main_v17 : IVec S256 1) : IVec S16x200x192 1 × IVec S4x200x200 1 × IVec S16x256 1 × IVec S256 1 × IVec S256 1 × IVec S256 1 × IVec S8x256x64 1 × IVec S8x64 1 × IVec S8x64 1 × IVec S8x256x64 1 × IVec S8x64 1 × IVec S8x64 1 × IVec S4x200 1 :=
  let main_v18 : FVec F S8x256x64 .f32 := Host.absf main_arg6
  let main_cst_5 : FVec F S_ .f32 := constant S_ .f32 0x7F800000#32
  let main_v19 : FVec F S8x256x64 .f32 := broadcastInDim S8x256x64 ![] bcast_S_S8x256x64 main_cst_5
  let main_v20 : IVec S8x256x64 1 := cmpf .olt main_v18 main_v19
  let main_v21 : FVec F S8x64 .f32 := Host.absf main_arg7
  let main_cst_6 : FVec F S_ .f32 := constant S_ .f32 0x7F800000#32
  let main_v22 : FVec F S8x64 .f32 := broadcastInDim S8x64 ![] bcast_S_S8x64 main_cst_6
  let main_v23 : IVec S8x64 1 := cmpf .olt main_v21 main_v22
  let main_v24 : FVec F S8x64 .f32 := Host.absf main_arg8
  let main_cst_7 : FVec F S_ .f32 := constant S_ .f32 0x7F800000#32
  let main_v25 : FVec F S8x64 .f32 := broadcastInDim S8x64 ![] bcast_S_S8x64 main_cst_7
  let main_v26 : IVec S8x64 1 := cmpf .olt main_v24 main_v25
  let main_v27 : FVec F S8x256x64 .f32 := Host.absf main_arg9
  let main_cst_8 : FVec F S_ .f32 := constant S_ .f32 0x7F800000#32
  let main_v28 : FVec F S8x256x64 .f32 := broadcastInDim S8x256x64 ![] bcast_S_S8x256x64 main_cst_8
  let main_v29 : IVec S8x256x64 1 := cmpf .olt main_v27 main_v28
  let main_v30 : FVec F S8x64 .f32 := Host.absf main_arg10
  let main_cst_9 : FVec F S_ .f32 := constant S_ .f32 0x7F800000#32
  let main_v31 : FVec F S8x64 .f32 := broadcastInDim S8x64 ![] bcast_S_S8x64 main_cst_9
  let main_v32 : IVec S8x64 1 := cmpf .olt main_v30 main_v31
  let main_v33 : FVec F S8x64 .f32 := Host.absf main_arg11
  let main_cst_10 : FVec F S_ .f32 := constant S_ .f32 0x7F800000#32
  let main_v34 : FVec F S8x64 .f32 := broadcastInDim S8x64 ![] bcast_S_S8x64 main_cst_10
  let main_v35 : IVec S8x64 1 := cmpf .olt main_v33 main_v34
  fn_part2 (F := F) main_arg1 main_v2 main_v5 main_v8 main_v11 main_v14 main_v17 main_v20 main_v23 main_v26 main_v29 main_v32 main_v35

def fn {F : FTy → Type} [FloatOps F] (main_arg0 : FVec F S16x200x192 .f32) (main_arg1 : FVec F S4x200x200 .f32) (main_arg2 : FVec F S16x256 .f32) (main_arg3 : FVec F S256 .f32) (main_arg4 : FVec F S256 .f32) (main_arg5 : FVec F S256 .f32) (main_arg6 : FVec F S8x256x64 .f32) (main_arg7 : FVec F S8x64 .f32) (main_arg8 : FVec F S8x64 .f32) (main_arg9 : FVec F S8x256x64 .f32) (main_arg10 : FVec F S8x64 .f32) (main_arg11 : FVec F S8x64 .f32) (main_arg12 : FVec F S1024x256 .f32) (main_arg13 : FVec F S1024x256 .f32) (main_arg14 : FVec F S256 .f32) (main_arg15 : FVec F S3x256x128 .f32) (main_arg16 : FVec F S3x128x128 .f32) (main_arg17 : FVec F S3x128 .f32) (main_arg18 : FVec F S3x256x128 .f32) (main_arg19 : FVec F S3x128x128 .f32) (main_arg20 : FVec F S3x128 .f32) (main_arg21 : FVec F S1280x256 .f32) (main_arg22 : FVec F S256 .f32) (main_arg23 : FVec F S256x8 .f32) (main_arg24 : FVec F S8 .f32) : IVec S16x200x192 1 × IVec S4x200x200 1 × IVec S16x256 1 × IVec S256 1 × IVec S256 1 × IVec S256 1 × IVec S8x256x64 1 × IVec S8x64 1 × IVec S8x64 1 × IVec S8x256x64 1 × IVec S8x64 1 × IVec S8x64 1 × IVec S4x200 1 :=
  let main_v0 : FVec F S16x200x192 .f32 := Host.absf main_arg0
  let main_cst : FVec F S_ .f32 := constant S_ .f32 0x7F800000#32
  let main_v1 : FVec F S16x200x192 .f32 := broadcastInDim S16x200x192 ![] bcast_S_S16x200x192 main_cst
  let main_v2 : IVec S16x200x192 1 := cmpf .olt main_v0 main_v1
  let main_v3 : FVec F S4x200x200 .f32 := Host.absf main_arg1
  let main_cst_0 : FVec F S_ .f32 := constant S_ .f32 0x7F800000#32
  let main_v4 : FVec F S4x200x200 .f32 := broadcastInDim S4x200x200 ![] bcast_S_S4x200x200 main_cst_0
  let main_v5 : IVec S4x200x200 1 := cmpf .olt main_v3 main_v4
  let main_v6 : FVec F S16x256 .f32 := Host.absf main_arg2
  let main_cst_1 : FVec F S_ .f32 := constant S_ .f32 0x7F800000#32
  let main_v7 : FVec F S16x256 .f32 := broadcastInDim S16x256 ![] bcast_S_S16x256 main_cst_1
  let main_v8 : IVec S16x256 1 := cmpf .olt main_v6 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_v12 : FVec F S256 .f32 := Host.absf main_arg4
  let main_cst_3 : FVec F S_ .f32 := constant S_ .f32 0x7F800000#32
  let main_v13 : FVec F S256 .f32 := broadcastInDim S256 ![] bcast_S_S256 main_cst_3
  let main_v14 : IVec S256 1 := cmpf .olt main_v12 main_v13
  let main_v15 : FVec F S256 .f32 := Host.absf main_arg5
  let main_cst_4 : FVec F S_ .f32 := constant S_ .f32 0x7F800000#32
  let main_v16 : FVec F S256 .f32 := broadcastInDim S256 ![] bcast_S_S256 main_cst_4
  let main_v17 : IVec S256 1 := cmpf .olt main_v15 main_v16
  fn_part1 (F := F) main_arg1 main_arg6 main_arg7 main_arg8 main_arg9 main_arg10 main_arg11 main_v2 main_v5 main_v8 main_v11 main_v14 main_v17
-- ==== Kernel.lean ====
abbrev S16x200x192 : Shape := ⟨3, ![16, 200, 192]⟩
abbrev S4x200x200 : Shape := ⟨3, ![4, 200, 200]⟩
abbrev S16x256 : Shape := ⟨2, ![16, 256]⟩
abbrev S256 : Shape := ⟨1, ![256]⟩
abbrev S8x256x64 : Shape := ⟨3, ![8, 256, 64]⟩
abbrev S8x64 : Shape := ⟨2, ![8, 64]⟩
abbrev S1024x256 : Shape := ⟨2, ![1024, 256]⟩
abbrev S3x256x128 : Shape := ⟨3, ![3, 256, 128]⟩
abbrev S3x128x128 : Shape := ⟨3, ![3, 128, 128]⟩
abbrev S3x128 : Shape := ⟨2, ![3, 128]⟩
abbrev S1280x256 : Shape := ⟨2, ![1280, 256]⟩
abbrev S256x8 : Shape := ⟨2, ![256, 8]⟩
abbrev S8 : Shape := ⟨1, ![8]⟩
abbrev S256x8x64 : Shape := ⟨3, ![256, 8, 64]⟩
abbrev S256x512 : Shape := ⟨2, ![256, 512]⟩
abbrev S256x1024 : Shape := ⟨2, ![256, 1024]⟩
abbrev S8x256 : Shape := ⟨2, ![8, 256]⟩
abbrev S256x16 : Shape := ⟨2, ![256, 16]⟩
abbrev S38400x16 : Shape := ⟨2, ![38400, 16]⟩
abbrev S1x256 : Shape := ⟨2, ![1, 256]⟩
abbrev S3200x1024 : Shape := ⟨2, ![3200, 1024]⟩
abbrev S768x16 : Shape := ⟨2, ![768, 16]⟩
abbrev S64x1024 : Shape := ⟨2, ![64, 1024]⟩
abbrev S768x256 : Shape := ⟨2, ![768, 256]⟩
abbrev S768 : Shape := ⟨1, ![768]⟩
abbrev S768x1 : Shape := ⟨2, ![768, 1]⟩
abbrev S768x1024 : Shape := ⟨2, ![768, 1024]⟩
abbrev S64x12x16 : Shape := ⟨3, ![64, 12, 16]⟩
abbrev S64x12x1x16 : Shape := ⟨4, ![64, 12, 1, 16]⟩
abbrev S64x1x12x16 : Shape := ⟨4, ![64, 1, 12, 16]⟩
abbrev S64x12x12x16 : Shape := ⟨4, ![64, 12, 12, 16]⟩
abbrev S64x12x16x64 : Shape := ⟨4, ![64, 12, 16, 64]⟩
abbrev S64x12x16x1 : Shape := ⟨4, ![64, 12, 16, 1]⟩
abbrev S64x1x16x64 : Shape := ⟨4, ![64, 1, 16, 64]⟩
abbrev S64x16x64 : Shape := ⟨3, ![64, 16, 64]⟩
abbrev S16x200x1024 : Shape := ⟨3, ![16, 200, 1024]⟩
abbrev S3x1x128 : Shape := ⟨3, ![3, 1, 128]⟩
abbrev S128x256 : Shape := ⟨2, ![128, 256]⟩
abbrev S1x8 : Shape := ⟨2, ![1, 8]⟩
abbrev S16x200x8 : Shape := ⟨3, ![16, 200, 8]⟩
abbrev S1x200x1024 : Shape := ⟨3, ![1, 200, 1024]⟩
abbrev S1x200x8 : Shape := ⟨3, ![1, 200, 8]⟩
abbrev S200x1024 : Shape := ⟨2, ![200, 1024]⟩
abbrev S4x200 : Shape := ⟨2, ![4, 200]⟩
abbrev S4x200x1 : Shape := ⟨3, ![4, 200, 1]⟩
abbrev S200x256 : Shape := ⟨2, ![200, 256]⟩
abbrev S1x200x200 : Shape := ⟨3, ![1, 200, 200]⟩
abbrev S200x200 : Shape := ⟨2, ![200, 200]⟩
abbrev S1x200x1 : Shape := ⟨3, ![1, 200, 1]⟩
abbrev S200x1 : Shape := ⟨2, ![200, 1]⟩
abbrev S200x128 : Shape := ⟨2, ![200, 128]⟩
abbrev S1x256x128 : Shape := ⟨3, ![1, 256, 128]⟩
abbrev S256x128 : Shape := ⟨2, ![256, 128]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S200x8 : Shape := ⟨2, ![200, 8]⟩

abbrev nBuf : Space → Nat
  | .hbm => 58
  | .vmem => 31
  | .smem => 0
  | _ => 0

abbrev bufTy : (tb : Table) → Fin (tcTables nBuf tb) → BufTy
  | .hbm, ⟨0, _⟩ => ⟨S16x200x192, .f32⟩
  | .hbm, ⟨1, _⟩ => ⟨S4x200x200, .f32⟩
  | .hbm, ⟨2, _⟩ => ⟨S16x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S8x256x64, .f32⟩
  | .hbm, ⟨7, _⟩ => ⟨S8x64, .f32⟩
  | .hbm, ⟨8, _⟩ => ⟨S8x64, .f32⟩
  | .hbm, ⟨9, _⟩ => ⟨S8x256x64, .f32⟩
  | .hbm, ⟨10, _⟩ => ⟨S8x64, .f32⟩
  | .hbm, ⟨11, _⟩ => ⟨S8x64, .f32⟩
  | .hbm, ⟨12, _⟩ => ⟨S1024x256, .f32⟩
  | .hbm, ⟨13, _⟩ => ⟨S1024x256, .f32⟩
  | .hbm, ⟨14, _⟩ => ⟨S256, .f32⟩
  | .hbm, ⟨15, _⟩ => ⟨S3x256x128, .f32⟩
  | .hbm, ⟨16, _⟩ => ⟨S3x128x128, .f32⟩
  | .hbm, ⟨17, _⟩ => ⟨S3x128, .f32⟩
  | .hbm, ⟨18, _⟩ => ⟨S3x256x128, .f32⟩
  | .hbm, ⟨19, _⟩ => ⟨S3x128x128, .f32⟩
  | .hbm, ⟨20, _⟩ => ⟨S3x128, .f32⟩
  | .hbm, ⟨21, _⟩ => ⟨S1280x256, .f32⟩
  | .hbm, ⟨22, _⟩ => ⟨S256, .f32⟩
  | .hbm, ⟨23, _⟩ => ⟨S256x8, .f32⟩
  | .hbm, ⟨24, _⟩ => ⟨S8, .f32⟩
  | .hbm, ⟨25, _⟩ => ⟨S256x8x64, .f32⟩
  | .hbm, ⟨26, _⟩ => ⟨S256x512, .f32⟩
  | .hbm, ⟨27, _⟩ => ⟨S256x8x64, .f32⟩
  | .hbm, ⟨28, _⟩ => ⟨S256x512, .f32⟩
  | .hbm, ⟨29, _⟩ => ⟨S256x1024, .f32⟩
  | .hbm, ⟨30, _⟩ => ⟨S8x256, .f32⟩
  | .hbm, ⟨31, _⟩ => ⟨S256x8, .f32⟩
  | .hbm, ⟨32, _⟩ => ⟨S8x256, .f32⟩
  | .hbm, ⟨33, _⟩ => ⟨S256x8, .f32⟩
  | .hbm, ⟨34, _⟩ => ⟨S256x16, .f32⟩
  | .hbm, ⟨35, _⟩ => ⟨S8x256, .f32⟩
  | .hbm, ⟨36, _⟩ => ⟨S256x8, .f32⟩
  | .hbm, ⟨37, _⟩ => ⟨S8x256, .f32⟩
  | .hbm, ⟨38, _⟩ => ⟨S256x8, .f32⟩
  | .hbm, ⟨39, _⟩ => ⟨S256x16, .f32⟩
  | .hbm, ⟨40, _⟩ => ⟨S256x1024, .bf16⟩
  | .hbm, ⟨41, _⟩ => ⟨S256x16, .bf16⟩
  | .hbm, ⟨42, _⟩ => ⟨S256x16, .bf16⟩
  | .hbm, ⟨43, _⟩ => ⟨S38400x16, .f32⟩
  | .hbm, ⟨44, _⟩ => ⟨S1x256, .f32⟩
  | .hbm, ⟨45, _⟩ => ⟨S1x256, .f32⟩
  | .hbm, ⟨46, _⟩ => ⟨S1x256, .f32⟩
  | .hbm, ⟨47, _⟩ => ⟨S3200x1024, .f32⟩
  | .hbm, ⟨48, _⟩ => ⟨S16x200x1024, .f32⟩
  | .hbm, ⟨49, _⟩ => ⟨S1x256, .f32⟩
  | .hbm, ⟨50, _⟩ => ⟨S3x1x128, .f32⟩
  | .hbm, ⟨51, _⟩ => ⟨S3x1x128, .f32⟩
  | .hbm, ⟨52, _⟩ => ⟨S1024x256, .f32⟩
  | .hbm, ⟨53, _⟩ => ⟨S128x256, .f32⟩
  | .hbm, ⟨54, _⟩ => ⟨S128x256, .f32⟩
  | .hbm, ⟨55, _⟩ => ⟨S1x256, .f32⟩
  | .hbm, ⟨56, _⟩ => ⟨S1x8, .f32⟩
  | .hbm, ⟨57, _⟩ => ⟨S16x200x8, .f32⟩
  | .local _ .vmem, ⟨0, _⟩ => ⟨S768x16, .f32⟩
  | .local _ .vmem, ⟨1, _⟩ => ⟨S768x16, .f32⟩
  | .local _ .vmem, ⟨2, _⟩ => ⟨S16x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S256x1024, .bf16⟩
  | .local _ .vmem, ⟨7, _⟩ => ⟨S256x16, .bf16⟩
  | .local _ .vmem, ⟨8, _⟩ => ⟨S256x16, .bf16⟩
  | .local _ .vmem, ⟨9, _⟩ => ⟨S64x1024, .f32⟩
  | .local _ .vmem, ⟨10, _⟩ => ⟨S64x1024, .f32⟩
  | .local _ .vmem, ⟨11, _⟩ => ⟨S1x200x1024, .f32⟩
  | .local _ .vmem, ⟨12, _⟩ => ⟨S1x200x1024, .f32⟩
  | .local _ .vmem, ⟨13, _⟩ => ⟨S4x200x200, .f32⟩
  | .local _ .vmem, ⟨14, _⟩ => ⟨S1024x256, .f32⟩
  | .local _ .vmem, ⟨15, _⟩ => ⟨S1024x256, .f32⟩
  | .local _ .vmem, ⟨16, _⟩ => ⟨S1x256, .f32⟩
  | .local _ .vmem, ⟨17, _⟩ => ⟨S3x256x128, .f32⟩
  | .local _ .vmem, ⟨18, _⟩ => ⟨S3x128x128, .f32⟩
  | .local _ .vmem, ⟨19, _⟩ => ⟨S3x1x128, .f32⟩
  | .local _ .vmem, ⟨20, _⟩ => ⟨S3x256x128, .f32⟩
  | .local _ .vmem, ⟨21, _⟩ => ⟨S3x128x128, .f32⟩
  | .local _ .vmem, ⟨22, _⟩ => ⟨S3x1x128, .f32⟩
  | .local _ .vmem, ⟨23, _⟩ => ⟨S1024x256, .f32⟩
  | .local _ .vmem, ⟨24, _⟩ => ⟨S128x256, .f32⟩
  | .local _ .vmem, ⟨25, _⟩ => ⟨S128x256, .f32⟩
  | .local _ .vmem, ⟨26, _⟩ => ⟨S1x256, .f32⟩
  | .local _ .vmem, ⟨27, _⟩ => ⟨S256x8, .f32⟩
  | .local _ .vmem, ⟨28, _⟩ => ⟨S1x8, .f32⟩
  | .local _ .vmem, ⟨29, _⟩ => ⟨S1x200x8, .f32⟩
  | .local _ .vmem, ⟨30, _⟩ => ⟨S1x200x8, .f32⟩
  | _, _ => ⟨S16x200x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg13_0 : Ref sig .tc := ⟨.vmem, 25, rfl⟩
abbrev cc1_stg14_0 : Ref sig .tc := ⟨.vmem, 26, rfl⟩
abbrev cc1_stg15_0 : Ref sig .tc := ⟨.vmem, 27, rfl⟩
abbrev cc1_stg16_0 : Ref sig .tc := ⟨.vmem, 28, rfl⟩
abbrev cc1_stg17_0 : Ref sig .tc := ⟨.vmem, 29, rfl⟩
abbrev cc1_stg17_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25
abbrev cc1_sem14_0 : DmaSem sig := 26
abbrev cc1_sem15_0 : DmaSem sig := 27
abbrev cc1_sem16_0 : DmaSem sig := 28
abbrev cc1_sem17_0 : DmaSem sig := 29
abbrev cc1_sem17_1 : DmaSem sig := 30

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x200x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x200x200 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3x128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3x1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S3x256x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S3x128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S3x1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1024x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S128x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x256 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S256x8 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x8 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 2 → Memref sig .tc .vmem S1x200x8 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]
-- ==== KernelIdeal.lean ====
variable {F : FTy → Type} [FloatOps F] [Named F]
def κ : String → Option EReal := fun
  | "slope" => some ((13421773 / 67108864 : ℝ) : EReal)
  | _ => none
-- ==== ReferenceIdeal.lean ====
abbrev S16x200x192 : Shape := ⟨3, ![16, 200, 192]⟩
abbrev S4x200x200 : Shape := ⟨3, ![4, 200, 200]⟩
abbrev S16x256 : Shape := ⟨2, ![16, 256]⟩
abbrev S256 : Shape := ⟨1, ![256]⟩
abbrev S8x256x64 : Shape := ⟨3, ![8, 256, 64]⟩
abbrev S8x64 : Shape := ⟨2, ![8, 64]⟩
abbrev S1024x256 : Shape := ⟨2, ![1024, 256]⟩
abbrev S3x256x128 : Shape := ⟨3, ![3, 256, 128]⟩
abbrev S3x128x128 : Shape := ⟨3, ![3, 128, 128]⟩
abbrev S3x128 : Shape := ⟨2, ![3, 128]⟩
abbrev S1280x256 : Shape := ⟨2, ![1280, 256]⟩
abbrev S256x8 : Shape := ⟨2, ![256, 8]⟩
abbrev S8 : Shape := ⟨1, ![8]⟩
abbrev S16x200x12x16 : Shape := ⟨4, ![16, 200, 12, 16]⟩
abbrev S16x200x12x256 : Shape := ⟨4, ![16, 200, 12, 256]⟩
abbrev S1x1x1x256 : Shape := ⟨4, ![1, 1, 1, 256]⟩
abbrev S_ : Shape := ⟨0, ![]⟩
abbrev S16x200x12 : Shape := ⟨3, ![16, 200, 12]⟩
abbrev S16x200x12x1 : Shape := ⟨4, ![16, 200, 12, 1]⟩
abbrev S16x200x12x8x64 : Shape := ⟨5, ![16, 200, 12, 8, 64]⟩
abbrev S8x16x200x12 : Shape := ⟨4, ![8, 16, 200, 12]⟩
abbrev S16x200x12x8 : Shape := ⟨4, ![16, 200, 12, 8]⟩
abbrev S16x200x12x1x8 : Shape := ⟨5, ![16, 200, 12, 1, 8]⟩
abbrev S16x200x1x12x8 : Shape := ⟨5, ![16, 200, 1, 12, 8]⟩
abbrev S16x200x12x12x8 : Shape := ⟨5, ![16, 200, 12, 12, 8]⟩
abbrev S16x200x8x64x12 : Shape := ⟨5, ![16, 200, 8, 64, 12]⟩
abbrev S16x200x12x512 : Shape := ⟨4, ![16, 200, 12, 512]⟩
abbrev S16x200x12x1024 : Shape := ⟨4, ![16, 200, 12, 1024]⟩
abbrev S16x200x1024 : Shape := ⟨3, ![16, 200, 1024]⟩
abbrev S4x200 : Shape := ⟨2, ![4, 200]⟩
abbrev S4x200x1 : Shape := ⟨3, ![4, 200, 1]⟩
abbrev S16x1024x4x200 : Shape := ⟨4, ![16, 1024, 4, 200]⟩
abbrev S4x16x200x1024 : Shape := ⟨4, ![4, 16, 200, 1024]⟩
abbrev S4x16x200x256 : Shape := ⟨4, ![4, 16, 200, 256]⟩
abbrev S16x200x256 : Shape := ⟨3, ![16, 200, 256]⟩
abbrev S1x16x200x256 : Shape := ⟨4, ![1, 16, 200, 256]⟩
abbrev S16x200x128 : Shape := ⟨3, ![16, 200, 128]⟩
abbrev S1x256x128 : Shape := ⟨3, ![1, 256, 128]⟩
abbrev S256x128 : Shape := ⟨2, ![256, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x1x128 : Shape := ⟨3, ![1, 1, 128]⟩
abbrev S16x200x1280 : Shape := ⟨3, ![16, 200, 1280]⟩
abbrev S1x1x256 : Shape := ⟨3, ![1, 1, 256]⟩
abbrev S16x200x8 : Shape := ⟨3, ![16, 200, 8]⟩
abbrev S1x1x8 : Shape := ⟨3, ![1, 1, 8]⟩

abbrev nBuf : Space → Nat
  | .hbm => 701
  | .vmem => 0
  | .smem => 0
  | _ => 0

abbrev hbmTy0_0 (i : Nat) : BufTy := match i % 128 with
  | 0 => ⟨S16x200x192, .f32⟩
  | 1 => ⟨S4x200x200, .f32⟩
  | 2 => ⟨S16x256, .f32⟩
  | 3 => ⟨S256, .f32⟩
  | 4 => ⟨S256, .f32⟩
  | 5 => ⟨S256, .f32⟩
  | 6 => ⟨S8x256x64, .f32⟩
  | 7 => ⟨S8x64, .f32⟩
  | 8 => ⟨S8x64, .f32⟩
  | 9 => ⟨S8x256x64, .f32⟩
  | 10 => ⟨S8x64, .f32⟩
  | 11 => ⟨S8x64, .f32⟩
  | 12 => ⟨S1024x256, .f32⟩
  | 13 => ⟨S1024x256, .f32⟩
  | 14 => ⟨S256, .f32⟩
  | 15 => ⟨S3x256x128, .f32⟩
  | 16 => ⟨S3x128x128, .f32⟩
  | 17 => ⟨S3x128, .f32⟩
  | 18 => ⟨S3x256x128, .f32⟩
  | 19 => ⟨S3x128x128, .f32⟩
  | 20 => ⟨S3x128, .f32⟩
  | 21 => ⟨S1280x256, .f32⟩
  | 22 => ⟨S256, .f32⟩
  | 23 => ⟨S256x8, .f32⟩
  | 24 => ⟨S8, .f32⟩
  | 25 => ⟨S16x200x12x16, .f32⟩
  | 26 => ⟨S16x200x12x256, .f32⟩
  | 27 => ⟨S1x1x1x256, .f32⟩
  | 28 => ⟨S16x200x12x256, .f32⟩
  | 29 => ⟨S16x200x12x256, .f32⟩
  | 30 => ⟨S_, .f32⟩
  | 31 => ⟨S16x200x12, .f32⟩
  | 32 => ⟨S16x200x12x1, .f32⟩
  | 33 => ⟨S_, .f32⟩
  | 34 => ⟨S16x200x12x1, .f32⟩
  | 35 => ⟨S16x200x12x1, .f32⟩
  | 36 => ⟨S16x200x12x256, .f32⟩
  | 37 => ⟨S16x200x12x256, .f32⟩
  | 38 => ⟨S16x200x12x256, .f32⟩
  | 39 => ⟨S_, .f32⟩
  | 40 => ⟨S16x200x12, .f32⟩
  | 41 => ⟨S16x200x12x1, .f32⟩
  | 42 => ⟨S_, .f32⟩
  | 43 => ⟨S16x200x12x1, .f32⟩
  | 44 => ⟨S16x200x12x1, .f32⟩
  | 45 => ⟨S16x200x12x256, .f32⟩
  | 46 => ⟨S16x200x12x256, .f32⟩
  | 47 => ⟨S_, .f32⟩
  | 48 => ⟨S16x200x12x1, .f32⟩
  | 49 => ⟨S16x200x12x1, .f32⟩
  | 50 => ⟨S16x200x12x1, .f32⟩
  | 51 => ⟨S16x200x12x256, .f32⟩
  | 52 => ⟨S16x200x12x256, .f32⟩
  | 53 => ⟨S1x1x1x256, .f32⟩
  | 54 => ⟨S16x200x12x256, .f32⟩
  | 55 => ⟨S16x200x12x256, .f32⟩
  | 56 => ⟨S1x1x1x256, .f32⟩
  | 57 => ⟨S16x200x12x256, .f32⟩
  | 58 => ⟨S16x200x12x256, .f32⟩
  | 59 => ⟨S_, .f32⟩
  | 60 => ⟨S16x200x12x256, .f32⟩
  | 61 => ⟨S16x200x12x256, .f32⟩
  | 62 => ⟨S16x200x12x8x64, .f32⟩
  | 63 => ⟨S8x16x200x12, .f32⟩
  | 64 => ⟨S16x200x12x8, .f32⟩
  | 65 => ⟨S8x16x200x12, .f32⟩
  | 66 => ⟨S16x200x12x8, .f32⟩
  | 67 => ⟨S16x200x12x1x8, .f32⟩
  | 68 => ⟨S16x200x1x12x8, .f32⟩
  | 69 => ⟨S16x200x12x12x8, .f32⟩
  | 70 => ⟨S16x200x12x12x8, .f32⟩
  | 71 => ⟨S16x200x12x12x8, .f32⟩
  | 72 => ⟨S_, .f32⟩
  | 73 => ⟨S_, .f32⟩
  | 74 => ⟨S16x200x12x12x8, .f32⟩
  | 75 => ⟨S16x200x12x12x8, .i1⟩
  | 76 => ⟨S_, .f32⟩
  | 77 => ⟨S16x200x12x12x8, .f32⟩
  | 78 => ⟨S16x200x12x12x8, .f32⟩
  | 79 => ⟨S16x200x12x12x8, .f32⟩
  | 80 => ⟨S_, .f32⟩
  | 81 => ⟨S16x200x12x8, .f32⟩
  | 82 => ⟨S_, .f32⟩
  | 83 => ⟨S16x200x12x8, .f32⟩
  | 84 => ⟨S16x200x12x8, .f32⟩
  | 85 => ⟨S16x200x12x1x8, .f32⟩
  | 86 => ⟨S16x200x12x12x8, .f32⟩
  | 87 => ⟨S16x200x12x12x8, .f32⟩
  | 88 => ⟨S16x200x12x12x8, .f32⟩
  | 89 => ⟨S_, .f32⟩
  | 90 => ⟨S16x200x12x8, .f32⟩
  | 91 => ⟨S16x200x12x1x8, .f32⟩
  | 92 => ⟨S16x200x12x12x8, .f32⟩
  | 93 => ⟨S16x200x12x12x8, .f32⟩
  | 94 => ⟨S16x200x8x64x12, .f32⟩
  | 95 => ⟨S16x200x12x8x64, .f32⟩
  | 96 => ⟨S_, .f32⟩
  | 97 => ⟨S16x200x12x8x64, .f32⟩
  | 98 => ⟨S16x200x12x8x64, .i1⟩
  | 99 => ⟨S_, .f32⟩
  | 100 => ⟨S16x200x12x8x64, .f32⟩
  | 101 => ⟨S16x200x12x8x64, .i1⟩
  | 102 => ⟨S_, .f32⟩
  | 103 => ⟨S_, .f32⟩
  | 104 => ⟨S16x200x12x8x64, .f32⟩
  | 105 => ⟨S16x200x12x8x64, .f32⟩
  | 106 => ⟨S16x200x12x8x64, .f32⟩
  | 107 => ⟨S_, .f32⟩
  | 108 => ⟨S16x200x12x8x64, .f32⟩
  | 109 => ⟨S16x200x12x8x64, .f32⟩
  | 110 => ⟨S16x200x12x8x64, .f32⟩
  | 111 => ⟨S16x200x12x512, .f32⟩
  | 112 => ⟨S16x200x12x8x64, .f32⟩
  | 113 => ⟨S8x16x200x12, .f32⟩
  | 114 => ⟨S16x200x12x8, .f32⟩
  | 115 => ⟨S8x16x200x12, .f32⟩
  | 116 => ⟨S16x200x12x8, .f32⟩
  | 117 => ⟨S16x200x12x1x8, .f32⟩
  | 118 => ⟨S16x200x1x12x8, .f32⟩
  | 119 => ⟨S16x200x12x12x8, .f32⟩
  | 120 => ⟨S16x200x12x12x8, .f32⟩
  | 121 => ⟨S16x200x12x12x8, .f32⟩
  | 122 => ⟨S_, .f32⟩
  | 123 => ⟨S_, .f32⟩
  | 124 => ⟨S16x200x12x12x8, .f32⟩
  | 125 => ⟨S16x200x12x12x8, .i1⟩
  | 126 => ⟨S_, .f32⟩
  | 127 => ⟨S16x200x12x12x8, .f32⟩
  | _ => ⟨S16x200x192, .f32⟩

abbrev hbmTy0_1 (i : Nat) : BufTy := match i % 128 with
  | 0 => ⟨S16x200x12x12x8, .f32⟩
  | 1 => ⟨S16x200x12x12x8, .f32⟩
  | 2 => ⟨S_, .f32⟩
  | 3 => ⟨S16x200x12x8, .f32⟩
  | 4 => ⟨S_, .f32⟩
  | 5 => ⟨S16x200x12x8, .f32⟩
  | 6 => ⟨S16x200x12x8, .f32⟩
  | 7 => ⟨S16x200x12x1x8, .f32⟩
  | 8 => ⟨S16x200x12x12x8, .f32⟩
  | 9 => ⟨S16x200x12x12x8, .f32⟩
  | 10 => ⟨S16x200x12x12x8, .f32⟩
  | 11 => ⟨S_, .f32⟩
  | 12 => ⟨S16x200x12x8, .f32⟩
  | 13 => ⟨S16x200x12x1x8, .f32⟩
  | 14 => ⟨S16x200x12x12x8, .f32⟩
  | 15 => ⟨S16x200x12x12x8, .f32⟩
  | 16 => ⟨S16x200x8x64x12, .f32⟩
  | 17 => ⟨S16x200x12x8x64, .f32⟩
  | 18 => ⟨S_, .f32⟩
  | 19 => ⟨S16x200x12x8x64, .f32⟩
  | 20 => ⟨S16x200x12x8x64, .i1⟩
  | 21 => ⟨S_, .f32⟩
  | 22 => ⟨S16x200x12x8x64, .f32⟩
  | 23 => ⟨S16x200x12x8x64, .i1⟩
  | 24 => ⟨S_, .f32⟩
  | 25 => ⟨S_, .f32⟩
  | 26 => ⟨S16x200x12x8x64, .f32⟩
  | 27 => ⟨S16x200x12x8x64, .f32⟩
  | 28 => ⟨S16x200x12x8x64, .f32⟩
  | 29 => ⟨S_, .f32⟩
  | 30 => ⟨S16x200x12x8x64, .f32⟩
  | 31 => ⟨S16x200x12x8x64, .f32⟩
  | 32 => ⟨S16x200x12x8x64, .f32⟩
  | 33 => ⟨S16x200x12x512, .f32⟩
  | 34 => ⟨S16x200x12x1024, .f32⟩
  | 35 => ⟨S_, .f32⟩
  | 36 => ⟨S16x200x1024, .f32⟩
  | 37 => ⟨S_, .f32⟩
  | 38 => ⟨S16x200x1024, .f32⟩
  | 39 => ⟨S16x200x1024, .f32⟩
  | 40 => ⟨S_, .f32⟩
  | 41 => ⟨S4x200, .f32⟩
  | 42 => ⟨S4x200x1, .f32⟩
  | 43 => ⟨S_, .f32⟩
  | 44 => ⟨S4x200x1, .f32⟩
  | 45 => ⟨S4x200x1, .f32⟩
  | 46 => ⟨S4x200x200, .f32⟩
  | 47 => ⟨S4x200x200, .f32⟩
  | 48 => ⟨S16x1024x4x200, .f32⟩
  | 49 => ⟨S4x16x200x1024, .f32⟩
  | 50 => ⟨S4x16x200x256, .f32⟩
  | 51 => ⟨S16x200x256, .f32⟩
  | 52 => ⟨S1x16x200x256, .f32⟩
  | 53 => ⟨S4x16x200x256, .f32⟩
  | 54 => ⟨S4x16x200x256, .f32⟩
  | 55 => ⟨S1x1x1x256, .f32⟩
  | 56 => ⟨S4x16x200x256, .f32⟩
  | 57 => ⟨S4x16x200x256, .f32⟩
  | 58 => ⟨S_, .f32⟩
  | 59 => ⟨S4x16x200x256, .f32⟩
  | 60 => ⟨S4x16x200x256, .f32⟩
  | 61 => ⟨S1x16x200x256, .f32⟩
  | 62 => ⟨S16x200x256, .f32⟩
  | 63 => ⟨S1x16x200x256, .f32⟩
  | 64 => ⟨S16x200x256, .f32⟩
  | 65 => ⟨S1x16x200x256, .f32⟩
  | 66 => ⟨S16x200x256, .f32⟩
  | 67 => ⟨S1x16x200x256, .f32⟩
  | 68 => ⟨S16x200x256, .f32⟩
  | 69 => ⟨S_, .f32⟩
  | 70 => ⟨S16x200x128, .f32⟩
  | 71 => ⟨S1x256x128, .f32⟩
  | 72 => ⟨S256x128, .f32⟩
  | 73 => ⟨S16x200x128, .f32⟩
  | 74 => ⟨S1x128x128, .f32⟩
  | 75 => ⟨S128x128, .f32⟩
  | 76 => ⟨S16x200x128, .f32⟩
  | 77 => ⟨S16x200x128, .f32⟩
  | 78 => ⟨S1x128, .f32⟩
  | 79 => ⟨S128, .f32⟩
  | 80 => ⟨S1x1x128, .f32⟩
  | 81 => ⟨S16x200x128, .f32⟩
  | 82 => ⟨S16x200x128, .f32⟩
  | 83 => ⟨S16x200x128, .f32⟩
  | 84 => ⟨S16x200x128, .f32⟩
  | 85 => ⟨S_, .f32⟩
  | 86 => ⟨S16x200x128, .f32⟩
  | 87 => ⟨S16x200x128, .f32⟩
  | 88 => ⟨S_, .f32⟩
  | 89 => ⟨S16x200x128, .f32⟩
  | 90 => ⟨S16x200x128, .f32⟩
  | 91 => ⟨S1x256x128, .f32⟩
  | 92 => ⟨S256x128, .f32⟩
  | 93 => ⟨S16x200x128, .f32⟩
  | 94 => ⟨S1x128x128, .f32⟩
  | 95 => ⟨S128x128, .f32⟩
  | 96 => ⟨S16x200x128, .f32⟩
  | 97 => ⟨S16x200x128, .f32⟩
  | 98 => ⟨S1x128, .f32⟩
  | 99 => ⟨S128, .f32⟩
  | 100 => ⟨S1x1x128, .f32⟩
  | 101 => ⟨S16x200x128, .f32⟩
  | 102 => ⟨S16x200x128, .f32⟩
  | 103 => ⟨S16x200x128, .f32⟩
  | 104 => ⟨S16x200x128, .f32⟩
  | 105 => ⟨S_, .f32⟩
  | 106 => ⟨S16x200x128, .f32⟩
  | 107 => ⟨S16x200x128, .f32⟩
  | 108 => ⟨S_, .f32⟩
  | 109 => ⟨S16x200x128, .f32⟩
  | 110 => ⟨S16x200x128, .f32⟩
  | 111 => ⟨S1x256x128, .f32⟩
  | 112 => ⟨S256x128, .f32⟩
  | 113 => ⟨S16x200x128, .f32⟩
  | 114 => ⟨S16x200x128, .f32⟩
  | 115 => ⟨S1x128x128, .f32⟩
  | 116 => ⟨S128x128, .f32⟩
  | 117 => ⟨S16x200x128, .f32⟩
  | 118 => ⟨S16x200x128, .f32⟩
  | 119 => ⟨S1x128, .f32⟩
  | 120 => ⟨S128, .f32⟩
  | 121 => ⟨S1x1x128, .f32⟩
  | 122 => ⟨S16x200x128, .f32⟩
  | 123 => ⟨S16x200x128, .f32⟩
  | 124 => ⟨S16x200x128, .f32⟩
  | 125 => ⟨S_, .f32⟩
  | 126 => ⟨S16x200x128, .f32⟩
  | 127 => ⟨S16x200x128, .f32⟩
  | _ => ⟨S16x200x192, .f32⟩

abbrev hbmTy0_2 (i : Nat) : BufTy := match i % 128 with
  | 0 => ⟨S16x200x128, .f32⟩
  | 1 => ⟨S16x200x128, .f32⟩
  | 2 => ⟨S16x200x128, .f32⟩
  | 3 => ⟨S1x256x128, .f32⟩
  | 4 => ⟨S256x128, .f32⟩
  | 5 => ⟨S16x200x128, .f32⟩
  | 6 => ⟨S1x128x128, .f32⟩
  | 7 => ⟨S128x128, .f32⟩
  | 8 => ⟨S16x200x128, .f32⟩
  | 9 => ⟨S16x200x128, .f32⟩
  | 10 => ⟨S1x128, .f32⟩
  | 11 => ⟨S128, .f32⟩
  | 12 => ⟨S1x1x128, .f32⟩
  | 13 => ⟨S16x200x128, .f32⟩
  | 14 => ⟨S16x200x128, .f32⟩
  | 15 => ⟨S16x200x128, .f32⟩
  | 16 => ⟨S16x200x128, .f32⟩
  | 17 => ⟨S_, .f32⟩
  | 18 => ⟨S16x200x128, .f32⟩
  | 19 => ⟨S16x200x128, .f32⟩
  | 20 => ⟨S_, .f32⟩
  | 21 => ⟨S16x200x128, .f32⟩
  | 22 => ⟨S16x200x128, .f32⟩
  | 23 => ⟨S1x256x128, .f32⟩
  | 24 => ⟨S256x128, .f32⟩
  | 25 => ⟨S16x200x128, .f32⟩
  | 26 => ⟨S1x128x128, .f32⟩
  | 27 => ⟨S128x128, .f32⟩
  | 28 => ⟨S16x200x128, .f32⟩
  | 29 => ⟨S16x200x128, .f32⟩
  | 30 => ⟨S1x128, .f32⟩
  | 31 => ⟨S128, .f32⟩
  | 32 => ⟨S1x1x128, .f32⟩
  | 33 => ⟨S16x200x128, .f32⟩
  | 34 => ⟨S16x200x128, .f32⟩
  | 35 => ⟨S16x200x128, .f32⟩
  | 36 => ⟨S16x200x128, .f32⟩
  | 37 => ⟨S_, .f32⟩
  | 38 => ⟨S16x200x128, .f32⟩
  | 39 => ⟨S16x200x128, .f32⟩
  | 40 => ⟨S_, .f32⟩
  | 41 => ⟨S16x200x128, .f32⟩
  | 42 => ⟨S16x200x128, .f32⟩
  | 43 => ⟨S1x256x128, .f32⟩
  | 44 => ⟨S256x128, .f32⟩
  | 45 => ⟨S16x200x128, .f32⟩
  | 46 => ⟨S16x200x128, .f32⟩
  | 47 => ⟨S1x128x128, .f32⟩
  | 48 => ⟨S128x128, .f32⟩
  | 49 => ⟨S16x200x128, .f32⟩
  | 50 => ⟨S16x200x128, .f32⟩
  | 51 => ⟨S1x128, .f32⟩
  | 52 => ⟨S128, .f32⟩
  | 53 => ⟨S1x1x128, .f32⟩
  | 54 => ⟨S16x200x128, .f32⟩
  | 55 => ⟨S16x200x128, .f32⟩
  | 56 => ⟨S16x200x128, .f32⟩
  | 57 => ⟨S_, .f32⟩
  | 58 => ⟨S16x200x128, .f32⟩
  | 59 => ⟨S16x200x128, .f32⟩
  | 60 => ⟨S16x200x128, .f32⟩
  | 61 => ⟨S16x200x128, .f32⟩
  | 62 => ⟨S16x200x128, .f32⟩
  | 63 => ⟨S1x256x128, .f32⟩
  | 64 => ⟨S256x128, .f32⟩
  | 65 => ⟨S16x200x128, .f32⟩
  | 66 => ⟨S1x128x128, .f32⟩
  | 67 => ⟨S128x128, .f32⟩
  | 68 => ⟨S16x200x128, .f32⟩
  | 69 => ⟨S16x200x128, .f32⟩
  | 70 => ⟨S1x128, .f32⟩
  | 71 => ⟨S128, .f32⟩
  | 72 => ⟨S1x1x128, .f32⟩
  | 73 => ⟨S16x200x128, .f32⟩
  | 74 => ⟨S16x200x128, .f32⟩
  | 75 => ⟨S16x200x128, .f32⟩
  | 76 => ⟨S16x200x128, .f32⟩
  | 77 => ⟨S_, .f32⟩
  | 78 => ⟨S16x200x128, .f32⟩
  | 79 => ⟨S16x200x128, .f32⟩
  | 80 => ⟨S_, .f32⟩
  | 81 => ⟨S16x200x128, .f32⟩
  | 82 => ⟨S16x200x128, .f32⟩
  | 83 => ⟨S1x256x128, .f32⟩
  | 84 => ⟨S256x128, .f32⟩
  | 85 => ⟨S16x200x128, .f32⟩
  | 86 => ⟨S1x128x128, .f32⟩
  | 87 => ⟨S128x128, .f32⟩
  | 88 => ⟨S16x200x128, .f32⟩
  | 89 => ⟨S16x200x128, .f32⟩
  | 90 => ⟨S1x128, .f32⟩
  | 91 => ⟨S128, .f32⟩
  | 92 => ⟨S1x1x128, .f32⟩
  | 93 => ⟨S16x200x128, .f32⟩
  | 94 => ⟨S16x200x128, .f32⟩
  | 95 => ⟨S16x200x128, .f32⟩
  | 96 => ⟨S16x200x128, .f32⟩
  | 97 => ⟨S_, .f32⟩
  | 98 => ⟨S16x200x128, .f32⟩
  | 99 => ⟨S16x200x128, .f32⟩
  | 100 => ⟨S_, .f32⟩
  | 101 => ⟨S16x200x128, .f32⟩
  | 102 => ⟨S16x200x128, .f32⟩
  | 103 => ⟨S1x256x128, .f32⟩
  | 104 => ⟨S256x128, .f32⟩
  | 105 => ⟨S16x200x128, .f32⟩
  | 106 => ⟨S16x200x128, .f32⟩
  | 107 => ⟨S1x128x128, .f32⟩
  | 108 => ⟨S128x128, .f32⟩
  | 109 => ⟨S16x200x128, .f32⟩
  | 110 => ⟨S16x200x128, .f32⟩
  | 111 => ⟨S1x128, .f32⟩
  | 112 => ⟨S128, .f32⟩
  | 113 => ⟨S1x1x128, .f32⟩
  | 114 => ⟨S16x200x128, .f32⟩
  | 115 => ⟨S16x200x128, .f32⟩
  | 116 => ⟨S16x200x128, .f32⟩
  | 117 => ⟨S_, .f32⟩
  | 118 => ⟨S16x200x128, .f32⟩
  | 119 => ⟨S16x200x128, .f32⟩
  | 120 => ⟨S16x200x128, .f32⟩
  | 121 => ⟨S16x200x128, .f32⟩
  | 122 => ⟨S16x200x128, .f32⟩
  | 123 => ⟨S1x256x128, .f32⟩
  | 124 => ⟨S256x128, .f32⟩
  | 125 => ⟨S16x200x128, .f32⟩
  | 126 => ⟨S1x128x128, .f32⟩
  | 127 => ⟨S128x128, .f32⟩
  | _ => ⟨S16x200x192, .f32⟩

abbrev hbmTy0_3 (i : Nat) : BufTy := match i % 128 with
  | 0 => ⟨S16x200x128, .f32⟩
  | 1 => ⟨S16x200x128, .f32⟩
  | 2 => ⟨S1x128, .f32⟩
  | 3 => ⟨S128, .f32⟩
  | 4 => ⟨S1x1x128, .f32⟩
  | 5 => ⟨S16x200x128, .f32⟩
  | 6 => ⟨S16x200x128, .f32⟩
  | 7 => ⟨S16x200x128, .f32⟩
  | 8 => ⟨S16x200x128, .f32⟩
  | 9 => ⟨S_, .f32⟩
  | 10 => ⟨S16x200x128, .f32⟩
  | 11 => ⟨S16x200x128, .f32⟩
  | 12 => ⟨S_, .f32⟩
  | 13 => ⟨S16x200x128, .f32⟩
  | 14 => ⟨S16x200x128, .f32⟩
  | 15 => ⟨S1x256x128, .f32⟩
  | 16 => ⟨S256x128, .f32⟩
  | 17 => ⟨S16x200x128, .f32⟩
  | 18 => ⟨S1x128x128, .f32⟩
  | 19 => ⟨S128x128, .f32⟩
  | 20 => ⟨S16x200x128, .f32⟩
  | 21 => ⟨S16x200x128, .f32⟩
  | 22 => ⟨S1x128, .f32⟩
  | 23 => ⟨S128, .f32⟩
  | 24 => ⟨S1x1x128, .f32⟩
  | 25 => ⟨S16x200x128, .f32⟩
  | 26 => ⟨S16x200x128, .f32⟩
  | 27 => ⟨S16x200x128, .f32⟩
  | 28 => ⟨S16x200x128, .f32⟩
  | 29 => ⟨S_, .f32⟩
  | 30 => ⟨S16x200x128, .f32⟩
  | 31 => ⟨S16x200x128, .f32⟩
  | 32 => ⟨S_, .f32⟩
  | 33 => ⟨S16x200x128, .f32⟩
  | 34 => ⟨S16x200x128, .f32⟩
  | 35 => ⟨S1x256x128, .f32⟩
  | 36 => ⟨S256x128, .f32⟩
  | 37 => ⟨S16x200x128, .f32⟩
  | 38 => ⟨S16x200x128, .f32⟩
  | 39 => ⟨S1x128x128, .f32⟩
  | 40 => ⟨S128x128, .f32⟩
  | 41 => ⟨S16x200x128, .f32⟩
  | 42 => ⟨S16x200x128, .f32⟩
  | 43 => ⟨S1x128, .f32⟩
  | 44 => ⟨S128, .f32⟩
  | 45 => ⟨S1x1x128, .f32⟩
  | 46 => ⟨S16x200x128, .f32⟩
  | 47 => ⟨S16x200x128, .f32⟩
  | 48 => ⟨S16x200x128, .f32⟩
  | 49 => ⟨S_, .f32⟩
  | 50 => ⟨S16x200x128, .f32⟩
  | 51 => ⟨S16x200x128, .f32⟩
  | 52 => ⟨S16x200x128, .f32⟩
  | 53 => ⟨S16x200x128, .f32⟩
  | 54 => ⟨S16x200x128, .f32⟩
  | 55 => ⟨S1x16x200x256, .f32⟩
  | 56 => ⟨S16x200x256, .f32⟩
  | 57 => ⟨S1x16x200x256, .f32⟩
  | 58 => ⟨S16x200x256, .f32⟩
  | 59 => ⟨S1x16x200x256, .f32⟩
  | 60 => ⟨S16x200x256, .f32⟩
  | 61 => ⟨S1x16x200x256, .f32⟩
  | 62 => ⟨S16x200x256, .f32⟩
  | 63 => ⟨S_, .f32⟩
  | 64 => ⟨S16x200x128, .f32⟩
  | 65 => ⟨S1x256x128, .f32⟩
  | 66 => ⟨S256x128, .f32⟩
  | 67 => ⟨S16x200x128, .f32⟩
  | 68 => ⟨S1x128x128, .f32⟩
  | 69 => ⟨S128x128, .f32⟩
  | 70 => ⟨S16x200x128, .f32⟩
  | 71 => ⟨S16x200x128, .f32⟩
  | 72 => ⟨S1x128, .f32⟩
  | 73 => ⟨S128, .f32⟩
  | 74 => ⟨S1x1x128, .f32⟩
  | 75 => ⟨S16x200x128, .f32⟩
  | 76 => ⟨S16x200x128, .f32⟩
  | 77 => ⟨S16x200x128, .f32⟩
  | 78 => ⟨S16x200x128, .f32⟩
  | 79 => ⟨S_, .f32⟩
  | 80 => ⟨S16x200x128, .f32⟩
  | 81 => ⟨S16x200x128, .f32⟩
  | 82 => ⟨S_, .f32⟩
  | 83 => ⟨S16x200x128, .f32⟩
  | 84 => ⟨S16x200x128, .f32⟩
  | 85 => ⟨S1x256x128, .f32⟩
  | 86 => ⟨S256x128, .f32⟩
  | 87 => ⟨S16x200x128, .f32⟩
  | 88 => ⟨S1x128x128, .f32⟩
  | 89 => ⟨S128x128, .f32⟩
  | 90 => ⟨S16x200x128, .f32⟩
  | 91 => ⟨S16x200x128, .f32⟩
  | 92 => ⟨S1x128, .f32⟩
  | 93 => ⟨S128, .f32⟩
  | 94 => ⟨S1x1x128, .f32⟩
  | 95 => ⟨S16x200x128, .f32⟩
  | 96 => ⟨S16x200x128, .f32⟩
  | 97 => ⟨S16x200x128, .f32⟩
  | 98 => ⟨S16x200x128, .f32⟩
  | 99 => ⟨S_, .f32⟩
  | 100 => ⟨S16x200x128, .f32⟩
  | 101 => ⟨S16x200x128, .f32⟩
  | 102 => ⟨S_, .f32⟩
  | 103 => ⟨S16x200x128, .f32⟩
  | 104 => ⟨S16x200x128, .f32⟩
  | 105 => ⟨S1x256x128, .f32⟩
  | 106 => ⟨S256x128, .f32⟩
  | 107 => ⟨S16x200x128, .f32⟩
  | 108 => ⟨S16x200x128, .f32⟩
  | 109 => ⟨S1x128x128, .f32⟩
  | 110 => ⟨S128x128, .f32⟩
  | 111 => ⟨S16x200x128, .f32⟩
  | 112 => ⟨S16x200x128, .f32⟩
  | 113 => ⟨S1x128, .f32⟩
  | 114 => ⟨S128, .f32⟩
  | 115 => ⟨S1x1x128, .f32⟩
  | 116 => ⟨S16x200x128, .f32⟩
  | 117 => ⟨S16x200x128, .f32⟩
  | 118 => ⟨S16x200x128, .f32⟩
  | 119 => ⟨S_, .f32⟩
  | 120 => ⟨S16x200x128, .f32⟩
  | 121 => ⟨S16x200x128, .f32⟩
  | 122 => ⟨S16x200x128, .f32⟩
  | 123 => ⟨S16x200x128, .f32⟩
  | 124 => ⟨S16x200x128, .f32⟩
  | 125 => ⟨S1x256x128, .f32⟩
  | 126 => ⟨S256x128, .f32⟩
  | 127 => ⟨S16x200x128, .f32⟩
  | _ => ⟨S16x200x192, .f32⟩

abbrev hbmTy0_4 (i : Nat) : BufTy := match i % 128 with
  | 0 => ⟨S1x128x128, .f32⟩
  | 1 => ⟨S128x128, .f32⟩
  | 2 => ⟨S16x200x128, .f32⟩
  | 3 => ⟨S16x200x128, .f32⟩
  | 4 => ⟨S1x128, .f32⟩
  | 5 => ⟨S128, .f32⟩
  | 6 => ⟨S1x1x128, .f32⟩
  | 7 => ⟨S16x200x128, .f32⟩
  | 8 => ⟨S16x200x128, .f32⟩
  | 9 => ⟨S16x200x128, .f32⟩
  | 10 => ⟨S16x200x128, .f32⟩
  | 11 => ⟨S_, .f32⟩
  | 12 => ⟨S16x200x128, .f32⟩
  | 13 => ⟨S16x200x128, .f32⟩
  | 14 => ⟨S_, .f32⟩
  | 15 => ⟨S16x200x128, .f32⟩
  | 16 => ⟨S16x200x128, .f32⟩
  | 17 => ⟨S1x256x128, .f32⟩
  | 18 => ⟨S256x128, .f32⟩
  | 19 => ⟨S16x200x128, .f32⟩
  | 20 => ⟨S1x128x128, .f32⟩
  | 21 => ⟨S128x128, .f32⟩
  | 22 => ⟨S16x200x128, .f32⟩
  | 23 => ⟨S16x200x128, .f32⟩
  | 24 => ⟨S1x128, .f32⟩
  | 25 => ⟨S128, .f32⟩
  | 26 => ⟨S1x1x128, .f32⟩
  | 27 => ⟨S16x200x128, .f32⟩
  | 28 => ⟨S16x200x128, .f32⟩
  | 29 => ⟨S16x200x128, .f32⟩
  | 30 => ⟨S16x200x128, .f32⟩
  | 31 => ⟨S_, .f32⟩
  | 32 => ⟨S16x200x128, .f32⟩
  | 33 => ⟨S16x200x128, .f32⟩
  | 34 => ⟨S_, .f32⟩
  | 35 => ⟨S16x200x128, .f32⟩
  | 36 => ⟨S16x200x128, .f32⟩
  | 37 => ⟨S1x256x128, .f32⟩
  | 38 => ⟨S256x128, .f32⟩
  | 39 => ⟨S16x200x128, .f32⟩
  | 40 => ⟨S16x200x128, .f32⟩
  | 41 => ⟨S1x128x128, .f32⟩
  | 42 => ⟨S128x128, .f32⟩
  | 43 => ⟨S16x200x128, .f32⟩
  | 44 => ⟨S16x200x128, .f32⟩
  | 45 => ⟨S1x128, .f32⟩
  | 46 => ⟨S128, .f32⟩
  | 47 => ⟨S1x1x128, .f32⟩
  | 48 => ⟨S16x200x128, .f32⟩
  | 49 => ⟨S16x200x128, .f32⟩
  | 50 => ⟨S16x200x128, .f32⟩
  | 51 => ⟨S_, .f32⟩
  | 52 => ⟨S16x200x128, .f32⟩
  | 53 => ⟨S16x200x128, .f32⟩
  | 54 => ⟨S16x200x128, .f32⟩
  | 55 => ⟨S16x200x128, .f32⟩
  | 56 => ⟨S16x200x128, .f32⟩
  | 57 => ⟨S1x256x128, .f32⟩
  | 58 => ⟨S256x128, .f32⟩
  | 59 => ⟨S16x200x128, .f32⟩
  | 60 => ⟨S1x128x128, .f32⟩
  | 61 => ⟨S128x128, .f32⟩
  | 62 => ⟨S16x200x128, .f32⟩
  | 63 => ⟨S16x200x128, .f32⟩
  | 64 => ⟨S1x128, .f32⟩
  | 65 => ⟨S128, .f32⟩
  | 66 => ⟨S1x1x128, .f32⟩
  | 67 => ⟨S16x200x128, .f32⟩
  | 68 => ⟨S16x200x128, .f32⟩
  | 69 => ⟨S16x200x128, .f32⟩
  | 70 => ⟨S16x200x128, .f32⟩
  | 71 => ⟨S_, .f32⟩
  | 72 => ⟨S16x200x128, .f32⟩
  | 73 => ⟨S16x200x128, .f32⟩
  | 74 => ⟨S_, .f32⟩
  | 75 => ⟨S16x200x128, .f32⟩
  | 76 => ⟨S16x200x128, .f32⟩
  | 77 => ⟨S1x256x128, .f32⟩
  | 78 => ⟨S256x128, .f32⟩
  | 79 => ⟨S16x200x128, .f32⟩
  | 80 => ⟨S1x128x128, .f32⟩
  | 81 => ⟨S128x128, .f32⟩
  | 82 => ⟨S16x200x128, .f32⟩
  | 83 => ⟨S16x200x128, .f32⟩
  | 84 => ⟨S1x128, .f32⟩
  | 85 => ⟨S128, .f32⟩
  | 86 => ⟨S1x1x128, .f32⟩
  | 87 => ⟨S16x200x128, .f32⟩
  | 88 => ⟨S16x200x128, .f32⟩
  | 89 => ⟨S16x200x128, .f32⟩
  | 90 => ⟨S16x200x128, .f32⟩
  | 91 => ⟨S_, .f32⟩
  | 92 => ⟨S16x200x128, .f32⟩
  | 93 => ⟨S16x200x128, .f32⟩
  | 94 => ⟨S_, .f32⟩
  | 95 => ⟨S16x200x128, .f32⟩
  | 96 => ⟨S16x200x128, .f32⟩
  | 97 => ⟨S1x256x128, .f32⟩
  | 98 => ⟨S256x128, .f32⟩
  | 99 => ⟨S16x200x128, .f32⟩
  | 100 => ⟨S16x200x128, .f32⟩
  | 101 => ⟨S1x128x128, .f32⟩
  | 102 => ⟨S128x128, .f32⟩
  | 103 => ⟨S16x200x128, .f32⟩
  | 104 => ⟨S16x200x128, .f32⟩
  | 105 => ⟨S1x128, .f32⟩
  | 106 => ⟨S128, .f32⟩
  | 107 => ⟨S1x1x128, .f32⟩
  | 108 => ⟨S16x200x128, .f32⟩
  | 109 => ⟨S16x200x128, .f32⟩
  | 110 => ⟨S16x200x128, .f32⟩
  | 111 => ⟨S_, .f32⟩
  | 112 => ⟨S16x200x128, .f32⟩
  | 113 => ⟨S16x200x128, .f32⟩
  | 114 => ⟨S16x200x128, .f32⟩
  | 115 => ⟨S16x200x128, .f32⟩
  | 116 => ⟨S16x200x128, .f32⟩
  | 117 => ⟨S1x256x128, .f32⟩
  | 118 => ⟨S256x128, .f32⟩
  | 119 => ⟨S16x200x128, .f32⟩
  | 120 => ⟨S1x128x128, .f32⟩
  | 121 => ⟨S128x128, .f32⟩
  | 122 => ⟨S16x200x128, .f32⟩
  | 123 => ⟨S16x200x128, .f32⟩
  | 124 => ⟨S1x128, .f32⟩
  | 125 => ⟨S128, .f32⟩
  | 126 => ⟨S1x1x128, .f32⟩
  | 127 => ⟨S16x200x128, .f32⟩
  | _ => ⟨S16x200x192, .f32⟩

abbrev hbmTy0_5 (i : Nat) : BufTy := match i % 128 with
  | 0 => ⟨S16x200x128, .f32⟩
  | 1 => ⟨S16x200x128, .f32⟩
  | 2 => ⟨S16x200x128, .f32⟩
  | 3 => ⟨S_, .f32⟩
  | 4 => ⟨S16x200x128, .f32⟩
  | 5 => ⟨S16x200x128, .f32⟩
  | 6 => ⟨S_, .f32⟩
  | 7 => ⟨S16x200x128, .f32⟩
  | 8 => ⟨S16x200x128, .f32⟩
  | 9 => ⟨S1x256x128, .f32⟩
  | 10 => ⟨S256x128, .f32⟩
  | 11 => ⟨S16x200x128, .f32⟩
  | 12 => ⟨S1x128x128, .f32⟩
  | 13 => ⟨S128x128, .f32⟩
  | 14 => ⟨S16x200x128, .f32⟩
  | 15 => ⟨S16x200x128, .f32⟩
  | 16 => ⟨S1x128, .f32⟩
  | 17 => ⟨S128, .f32⟩
  | 18 => ⟨S1x1x128, .f32⟩
  | 19 => ⟨S16x200x128, .f32⟩
  | 20 => ⟨S16x200x128, .f32⟩
  | 21 => ⟨S16x200x128, .f32⟩
  | 22 => ⟨S16x200x128, .f32⟩
  | 23 => ⟨S_, .f32⟩
  | 24 => ⟨S16x200x128, .f32⟩
  | 25 => ⟨S16x200x128, .f32⟩
  | 26 => ⟨S_, .f32⟩
  | 27 => ⟨S16x200x128, .f32⟩
  | 28 => ⟨S16x200x128, .f32⟩
  | 29 => ⟨S1x256x128, .f32⟩
  | 30 => ⟨S256x128, .f32⟩
  | 31 => ⟨S16x200x128, .f32⟩
  | 32 => ⟨S16x200x128, .f32⟩
  | 33 => ⟨S1x128x128, .f32⟩
  | 34 => ⟨S128x128, .f32⟩
  | 35 => ⟨S16x200x128, .f32⟩
  | 36 => ⟨S16x200x128, .f32⟩
  | 37 => ⟨S1x128, .f32⟩
  | 38 => ⟨S128, .f32⟩
  | 39 => ⟨S1x1x128, .f32⟩
  | 40 => ⟨S16x200x128, .f32⟩
  | 41 => ⟨S16x200x128, .f32⟩
  | 42 => ⟨S16x200x128, .f32⟩
  | 43 => ⟨S_, .f32⟩
  | 44 => ⟨S16x200x128, .f32⟩
  | 45 => ⟨S16x200x128, .f32⟩
  | 46 => ⟨S16x200x128, .f32⟩
  | 47 => ⟨S16x200x128, .f32⟩
  | 48 => ⟨S16x200x128, .f32⟩
  | 49 => ⟨S16x200x1280, .f32⟩
  | 50 => ⟨S16x200x256, .f32⟩
  | 51 => ⟨S1x1x256, .f32⟩
  | 52 => ⟨S16x200x256, .f32⟩
  | 53 => ⟨S16x200x256, .f32⟩
  | 54 => ⟨S_, .f32⟩
  | 55 => ⟨S16x200x256, .f32⟩
  | 56 => ⟨S16x200x256, .f32⟩
  | 57 => ⟨S16x200x8, .f32⟩
  | 58 => ⟨S1x1x8, .f32⟩
  | 59 => ⟨S16x200x8, .f32⟩
  | 60 => ⟨S16x200x8, .f32⟩
  | _ => ⟨S16x200x192, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16x200x192, .f32⟩

abbrev bufTy : (tb : Table) → Fin (tcTables nBuf tb) → BufTy
  | .hbm, ⟨i, _⟩ => hbmTy i
  | _, _ => ⟨S16x200x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_v6 : Ref sig .tc := ⟨.hbm, 32, rfl⟩
abbrev main_cst_0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_1 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_3 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_call0_cst : Ref sig .tc := ⟨.hbm, 59, rfl⟩
abbrev main_call0_v0 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_4 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_v40 : Ref sig .tc := ⟨.hbm, 79, rfl⟩
abbrev main_cst_5 : Ref sig .tc := ⟨.hbm, 80, rfl⟩
abbrev main_v41 : Ref sig .tc := ⟨.hbm, 81, rfl⟩
abbrev main_cst_6 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst_7 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_call2_cst : Ref sig .tc := ⟨.hbm, 96, rfl⟩
abbrev main_call2_v0 : Ref sig .tc := ⟨.hbm, 97, rfl⟩
abbrev main_call2_v1 : Ref sig .tc := ⟨.hbm, 98, rfl⟩
abbrev main_call2_cst_0 : Ref sig .tc := ⟨.hbm, 99, rfl⟩
abbrev main_call2_v2 : Ref sig .tc := ⟨.hbm, 100, rfl⟩
abbrev main_call2_v3 : Ref sig .tc := ⟨.hbm, 101, rfl⟩
abbrev main_call2_cst_1 : Ref sig .tc := ⟨.hbm, 102, rfl⟩
abbrev main_call2_call0_v0 : Ref sig .tc := ⟨.hbm, 103, rfl⟩
abbrev main_call2_call0_v1 : Ref sig .tc := ⟨.hbm, 104, rfl⟩
abbrev main_call2_v4 : Ref sig .tc := ⟨.hbm, 105, rfl⟩
abbrev main_call2_v5 : Ref sig .tc := ⟨.hbm, 106, rfl⟩
abbrev main_call2_cst_2 : Ref sig .tc := ⟨.hbm, 107, rfl⟩
abbrev main_call2_v6 : Ref sig .tc := ⟨.hbm, 108, rfl⟩
abbrev main_call2_v7 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_cst_8 : Ref sig .tc := ⟨.hbm, 122, rfl⟩
abbrev main_call3_cst : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_v66 : Ref sig .tc := ⟨.hbm, 129, rfl⟩
abbrev main_cst_9 : Ref sig .tc := ⟨.hbm, 130, rfl⟩
abbrev main_v67 : Ref sig .tc := ⟨.hbm, 131, rfl⟩
abbrev main_cst_10 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_cst_11 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_call4_cst : Ref sig .tc := ⟨.hbm, 146, rfl⟩
abbrev main_call4_v0 : Ref sig .tc := ⟨.hbm, 147, rfl⟩
abbrev main_call4_v1 : Ref sig .tc := ⟨.hbm, 148, rfl⟩
abbrev main_call4_cst_0 : Ref sig .tc := ⟨.hbm, 149, rfl⟩
abbrev main_call4_v2 : Ref sig .tc := ⟨.hbm, 150, rfl⟩
abbrev main_call4_v3 : Ref sig .tc := ⟨.hbm, 151, rfl⟩
abbrev main_call4_cst_1 : Ref sig .tc := ⟨.hbm, 152, rfl⟩
abbrev main_call4_call0_v0 : Ref sig .tc := ⟨.hbm, 153, rfl⟩
abbrev main_call4_call0_v1 : Ref sig .tc := ⟨.hbm, 154, rfl⟩
abbrev main_call4_v4 : Ref sig .tc := ⟨.hbm, 155, rfl⟩
abbrev main_call4_v5 : Ref sig .tc := ⟨.hbm, 156, rfl⟩
abbrev main_call4_cst_2 : Ref sig .tc := ⟨.hbm, 157, rfl⟩
abbrev main_call4_v6 : Ref sig .tc := ⟨.hbm, 158, rfl⟩
abbrev main_call4_v7 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_cst_12 : Ref sig .tc := ⟨.hbm, 163, rfl⟩
abbrev main_v83 : Ref sig .tc := ⟨.hbm, 164, rfl⟩
abbrev main_cst_13 : Ref sig .tc := ⟨.hbm, 165, rfl⟩
abbrev main_v84 : Ref sig .tc := ⟨.hbm, 166, rfl⟩
abbrev main_v85 : Ref sig .tc := ⟨.hbm, 167, rfl⟩
abbrev main_cst_14 : Ref sig .tc := ⟨.hbm, 168, rfl⟩
abbrev main_v86 : Ref sig .tc := ⟨.hbm, 169, rfl⟩
abbrev main_v87 : Ref sig .tc := ⟨.hbm, 170, rfl⟩
abbrev main_cst_15 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_call5_cst : Ref sig .tc := ⟨.hbm, 186, rfl⟩
abbrev main_call5_v0 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_cst_16 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_cst_17 : Ref sig .tc := ⟨.hbm, 213, rfl⟩
abbrev main_v126 : Ref sig .tc := ⟨.hbm, 214, rfl⟩
abbrev main_v127 : Ref sig .tc := ⟨.hbm, 215, rfl⟩
abbrev main_cst_18 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_cst_19 : Ref sig .tc := ⟨.hbm, 233, rfl⟩
abbrev main_v144 : Ref sig .tc := ⟨.hbm, 234, rfl⟩
abbrev main_v145 : Ref sig .tc := ⟨.hbm, 235, rfl⟩
abbrev main_cst_20 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_cst_21 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_v167 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩
abbrev main_v173 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_v177 : Ref sig .tc := ⟨.hbm, 269, rfl⟩
abbrev main_v178 : Ref sig .tc := ⟨.hbm, 270, rfl⟩
abbrev main_v179 : Ref sig .tc := ⟨.hbm, 271, rfl⟩
abbrev main_v180 : Ref sig .tc := ⟨.hbm, 272, rfl⟩
abbrev main_cst_22 : Ref sig .tc := ⟨.hbm, 273, rfl⟩
abbrev main_v181 : Ref sig .tc := ⟨.hbm, 274, rfl⟩
abbrev main_v182 : Ref sig .tc := ⟨.hbm, 275, rfl⟩
abbrev main_cst_23 : Ref sig .tc := ⟨.hbm, 276, rfl⟩
abbrev main_v183 : Ref sig .tc := ⟨.hbm, 277, rfl⟩
abbrev main_v184 : Ref sig .tc := ⟨.hbm, 278, rfl⟩
abbrev main_v185 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩
abbrev main_v198 : Ref sig .tc := ⟨.hbm, 292, rfl⟩
abbrev main_cst_24 : Ref sig .tc := ⟨.hbm, 293, rfl⟩
abbrev main_v199 : Ref sig .tc := ⟨.hbm, 294, rfl⟩
abbrev main_v200 : Ref sig .tc := ⟨.hbm, 295, rfl⟩
abbrev main_cst_25 : Ref sig .tc := ⟨.hbm, 296, rfl⟩
abbrev main_v201 : Ref sig .tc := ⟨.hbm, 297, rfl⟩
abbrev main_v202 : Ref sig .tc := ⟨.hbm, 298, rfl⟩
abbrev main_v203 : Ref sig .tc := ⟨.hbm, 299, rfl⟩
abbrev main_v204 : Ref sig .tc := ⟨.hbm, 300, rfl⟩
abbrev main_v205 : Ref sig .tc := ⟨.hbm, 301, rfl⟩
abbrev main_v206 : Ref sig .tc := ⟨.hbm, 302, rfl⟩
abbrev main_v207 : Ref sig .tc := ⟨.hbm, 303, rfl⟩
abbrev main_v208 : Ref sig .tc := ⟨.hbm, 304, rfl⟩
abbrev main_v209 : Ref sig .tc := ⟨.hbm, 305, rfl⟩
abbrev main_v210 : Ref sig .tc := ⟨.hbm, 306, rfl⟩
abbrev main_v211 : Ref sig .tc := ⟨.hbm, 307, rfl⟩
abbrev main_v212 : Ref sig .tc := ⟨.hbm, 308, rfl⟩
abbrev main_v213 : Ref sig .tc := ⟨.hbm, 309, rfl⟩
abbrev main_v214 : Ref sig .tc := ⟨.hbm, 310, rfl⟩
abbrev main_v215 : Ref sig .tc := ⟨.hbm, 311, rfl⟩
abbrev main_v216 : Ref sig .tc := ⟨.hbm, 312, rfl⟩
abbrev main_cst_26 : Ref sig .tc := ⟨.hbm, 313, rfl⟩
abbrev main_v217 : Ref sig .tc := ⟨.hbm, 314, rfl⟩
abbrev main_v218 : Ref sig .tc := ⟨.hbm, 315, rfl⟩
abbrev main_v219 : Ref sig .tc := ⟨.hbm, 316, rfl⟩
abbrev main_v220 : Ref sig .tc := ⟨.hbm, 317, rfl⟩
abbrev main_v221 : Ref sig .tc := ⟨.hbm, 318, rfl⟩
abbrev main_v222 : Ref sig .tc := ⟨.hbm, 319, rfl⟩
abbrev main_v223 : Ref sig .tc := ⟨.hbm, 320, rfl⟩
abbrev main_v224 : Ref sig .tc := ⟨.hbm, 321, rfl⟩
abbrev main_v225 : Ref sig .tc := ⟨.hbm, 322, rfl⟩
abbrev main_v226 : Ref sig .tc := ⟨.hbm, 323, rfl⟩
abbrev main_v227 : Ref sig .tc := ⟨.hbm, 324, rfl⟩
abbrev main_v228 : Ref sig .tc := ⟨.hbm, 325, rfl⟩
abbrev main_v229 : Ref sig .tc := ⟨.hbm, 326, rfl⟩
abbrev main_v230 : Ref sig .tc := ⟨.hbm, 327, rfl⟩
abbrev main_v231 : Ref sig .tc := ⟨.hbm, 328, rfl⟩
abbrev main_v232 : Ref sig .tc := ⟨.hbm, 329, rfl⟩
abbrev main_v233 : Ref sig .tc := ⟨.hbm, 330, rfl⟩
abbrev main_v234 : Ref sig .tc := ⟨.hbm, 331, rfl⟩
abbrev main_v235 : Ref sig .tc := ⟨.hbm, 332, rfl⟩
abbrev main_cst_27 : Ref sig .tc := ⟨.hbm, 333, rfl⟩
abbrev main_v236 : Ref sig .tc := ⟨.hbm, 334, rfl⟩
abbrev main_v237 : Ref sig .tc := ⟨.hbm, 335, rfl⟩
abbrev main_cst_28 : Ref sig .tc := ⟨.hbm, 336, rfl⟩
abbrev main_v238 : Ref sig .tc := ⟨.hbm, 337, rfl⟩
abbrev main_v239 : Ref sig .tc := ⟨.hbm, 338, rfl⟩
abbrev main_v240 : Ref sig .tc := ⟨.hbm, 339, rfl⟩
abbrev main_v241 : Ref sig .tc := ⟨.hbm, 340, rfl⟩
abbrev main_v242 : Ref sig .tc := ⟨.hbm, 341, rfl⟩
abbrev main_v243 : Ref sig .tc := ⟨.hbm, 342, rfl⟩
abbrev main_v244 : Ref sig .tc := ⟨.hbm, 343, rfl⟩
abbrev main_v245 : Ref sig .tc := ⟨.hbm, 344, rfl⟩
abbrev main_v246 : Ref sig .tc := ⟨.hbm, 345, rfl⟩
abbrev main_v247 : Ref sig .tc := ⟨.hbm, 346, rfl⟩
abbrev main_v248 : Ref sig .tc := ⟨.hbm, 347, rfl⟩
abbrev main_v249 : Ref sig .tc := ⟨.hbm, 348, rfl⟩
abbrev main_v250 : Ref sig .tc := ⟨.hbm, 349, rfl⟩
abbrev main_v251 : Ref sig .tc := ⟨.hbm, 350, rfl⟩
abbrev main_v252 : Ref sig .tc := ⟨.hbm, 351, rfl⟩
abbrev main_v253 : Ref sig .tc := ⟨.hbm, 352, rfl⟩
abbrev main_cst_29 : Ref sig .tc := ⟨.hbm, 353, rfl⟩
abbrev main_v254 : Ref sig .tc := ⟨.hbm, 354, rfl⟩
abbrev main_v255 : Ref sig .tc := ⟨.hbm, 355, rfl⟩
abbrev main_cst_30 : Ref sig .tc := ⟨.hbm, 356, rfl⟩
abbrev main_v256 : Ref sig .tc := ⟨.hbm, 357, rfl⟩
abbrev main_v257 : Ref sig .tc := ⟨.hbm, 358, rfl⟩
abbrev main_v258 : Ref sig .tc := ⟨.hbm, 359, rfl⟩
abbrev main_v259 : Ref sig .tc := ⟨.hbm, 360, rfl⟩
abbrev main_v260 : Ref sig .tc := ⟨.hbm, 361, rfl⟩
abbrev main_v261 : Ref sig .tc := ⟨.hbm, 362, rfl⟩
abbrev main_v262 : Ref sig .tc := ⟨.hbm, 363, rfl⟩
abbrev main_v263 : Ref sig .tc := ⟨.hbm, 364, rfl⟩
abbrev main_v264 : Ref sig .tc := ⟨.hbm, 365, rfl⟩
abbrev main_v265 : Ref sig .tc := ⟨.hbm, 366, rfl⟩
abbrev main_v266 : Ref sig .tc := ⟨.hbm, 367, rfl⟩
abbrev main_v267 : Ref sig .tc := ⟨.hbm, 368, rfl⟩
abbrev main_v268 : Ref sig .tc := ⟨.hbm, 369, rfl⟩
abbrev main_v269 : Ref sig .tc := ⟨.hbm, 370, rfl⟩
abbrev main_v270 : Ref sig .tc := ⟨.hbm, 371, rfl⟩
abbrev main_v271 : Ref sig .tc := ⟨.hbm, 372, rfl⟩
abbrev main_cst_31 : Ref sig .tc := ⟨.hbm, 373, rfl⟩
abbrev main_v272 : Ref sig .tc := ⟨.hbm, 374, rfl⟩
abbrev main_v273 : Ref sig .tc := ⟨.hbm, 375, rfl⟩
abbrev main_v274 : Ref sig .tc := ⟨.hbm, 376, rfl⟩
abbrev main_v275 : Ref sig .tc := ⟨.hbm, 377, rfl⟩
abbrev main_v276 : Ref sig .tc := ⟨.hbm, 378, rfl⟩
abbrev main_v277 : Ref sig .tc := ⟨.hbm, 379, rfl⟩
abbrev main_v278 : Ref sig .tc := ⟨.hbm, 380, rfl⟩
abbrev main_v279 : Ref sig .tc := ⟨.hbm, 381, rfl⟩
abbrev main_v280 : Ref sig .tc := ⟨.hbm, 382, rfl⟩
abbrev main_v281 : Ref sig .tc := ⟨.hbm, 383, rfl⟩
abbrev main_v282 : Ref sig .tc := ⟨.hbm, 384, rfl⟩
abbrev main_v283 : Ref sig .tc := ⟨.hbm, 385, rfl⟩
abbrev main_v284 : Ref sig .tc := ⟨.hbm, 386, rfl⟩
abbrev main_v285 : Ref sig .tc := ⟨.hbm, 387, rfl⟩
abbrev main_v286 : Ref sig .tc := ⟨.hbm, 388, rfl⟩
abbrev main_v287 : Ref sig .tc := ⟨.hbm, 389, rfl⟩
abbrev main_v288 : Ref sig .tc := ⟨.hbm, 390, rfl⟩
abbrev main_v289 : Ref sig .tc := ⟨.hbm, 391, rfl⟩
abbrev main_v290 : Ref sig .tc := ⟨.hbm, 392, rfl⟩
abbrev main_cst_32 : Ref sig .tc := ⟨.hbm, 393, rfl⟩
abbrev main_v291 : Ref sig .tc := ⟨.hbm, 394, rfl⟩
abbrev main_v292 : Ref sig .tc := ⟨.hbm, 395, rfl⟩
abbrev main_cst_33 : Ref sig .tc := ⟨.hbm, 396, rfl⟩
abbrev main_v293 : Ref sig .tc := ⟨.hbm, 397, rfl⟩
abbrev main_v294 : Ref sig .tc := ⟨.hbm, 398, rfl⟩
abbrev main_v295 : Ref sig .tc := ⟨.hbm, 399, rfl⟩
abbrev main_v296 : Ref sig .tc := ⟨.hbm, 400, rfl⟩
abbrev main_v297 : Ref sig .tc := ⟨.hbm, 401, rfl⟩
abbrev main_v298 : Ref sig .tc := ⟨.hbm, 402, rfl⟩
abbrev main_v299 : Ref sig .tc := ⟨.hbm, 403, rfl⟩
abbrev main_v300 : Ref sig .tc := ⟨.hbm, 404, rfl⟩
abbrev main_v301 : Ref sig .tc := ⟨.hbm, 405, rfl⟩
abbrev main_v302 : Ref sig .tc := ⟨.hbm, 406, rfl⟩
abbrev main_v303 : Ref sig .tc := ⟨.hbm, 407, rfl⟩
abbrev main_v304 : Ref sig .tc := ⟨.hbm, 408, rfl⟩
abbrev main_v305 : Ref sig .tc := ⟨.hbm, 409, rfl⟩
abbrev main_v306 : Ref sig .tc := ⟨.hbm, 410, rfl⟩
abbrev main_v307 : Ref sig .tc := ⟨.hbm, 411, rfl⟩
abbrev main_v308 : Ref sig .tc := ⟨.hbm, 412, rfl⟩
abbrev main_cst_34 : Ref sig .tc := ⟨.hbm, 413, rfl⟩
abbrev main_v309 : Ref sig .tc := ⟨.hbm, 414, rfl⟩
abbrev main_v310 : Ref sig .tc := ⟨.hbm, 415, rfl⟩
abbrev main_cst_35 : Ref sig .tc := ⟨.hbm, 416, rfl⟩
abbrev main_v311 : Ref sig .tc := ⟨.hbm, 417, rfl⟩
abbrev main_v312 : Ref sig .tc := ⟨.hbm, 418, rfl⟩
abbrev main_v313 : Ref sig .tc := ⟨.hbm, 419, rfl⟩
abbrev main_v314 : Ref sig .tc := ⟨.hbm, 420, rfl⟩
abbrev main_v315 : Ref sig .tc := ⟨.hbm, 421, rfl⟩
abbrev main_v316 : Ref sig .tc := ⟨.hbm, 422, rfl⟩
abbrev main_v317 : Ref sig .tc := ⟨.hbm, 423, rfl⟩
abbrev main_v318 : Ref sig .tc := ⟨.hbm, 424, rfl⟩
abbrev main_v319 : Ref sig .tc := ⟨.hbm, 425, rfl⟩
abbrev main_v320 : Ref sig .tc := ⟨.hbm, 426, rfl⟩
abbrev main_v321 : Ref sig .tc := ⟨.hbm, 427, rfl⟩
abbrev main_v322 : Ref sig .tc := ⟨.hbm, 428, rfl⟩
abbrev main_v323 : Ref sig .tc := ⟨.hbm, 429, rfl⟩
abbrev main_v324 : Ref sig .tc := ⟨.hbm, 430, rfl⟩
abbrev main_v325 : Ref sig .tc := ⟨.hbm, 431, rfl⟩
abbrev main_v326 : Ref sig .tc := ⟨.hbm, 432, rfl⟩
abbrev main_cst_36 : Ref sig .tc := ⟨.hbm, 433, rfl⟩
abbrev main_v327 : Ref sig .tc := ⟨.hbm, 434, rfl⟩
abbrev main_v328 : Ref sig .tc := ⟨.hbm, 435, rfl⟩
abbrev main_v329 : Ref sig .tc := ⟨.hbm, 436, rfl⟩
abbrev main_v330 : Ref sig .tc := ⟨.hbm, 437, rfl⟩
abbrev main_v331 : Ref sig .tc := ⟨.hbm, 438, rfl⟩
abbrev main_v332 : Ref sig .tc := ⟨.hbm, 439, rfl⟩
abbrev main_v333 : Ref sig .tc := ⟨.hbm, 440, rfl⟩
abbrev main_v334 : Ref sig .tc := ⟨.hbm, 441, rfl⟩
abbrev main_v335 : Ref sig .tc := ⟨.hbm, 442, rfl⟩
abbrev main_v336 : Ref sig .tc := ⟨.hbm, 443, rfl⟩
abbrev main_v337 : Ref sig .tc := ⟨.hbm, 444, rfl⟩
abbrev main_v338 : Ref sig .tc := ⟨.hbm, 445, rfl⟩
abbrev main_v339 : Ref sig .tc := ⟨.hbm, 446, rfl⟩
abbrev main_cst_37 : Ref sig .tc := ⟨.hbm, 447, rfl⟩
abbrev main_v340 : Ref sig .tc := ⟨.hbm, 448, rfl⟩
abbrev main_v341 : Ref sig .tc := ⟨.hbm, 449, rfl⟩
abbrev main_v342 : Ref sig .tc := ⟨.hbm, 450, rfl⟩
abbrev main_v343 : Ref sig .tc := ⟨.hbm, 451, rfl⟩
abbrev main_v344 : Ref sig .tc := ⟨.hbm, 452, rfl⟩
abbrev main_v345 : Ref sig .tc := ⟨.hbm, 453, rfl⟩
abbrev main_v346 : Ref sig .tc := ⟨.hbm, 454, rfl⟩
abbrev main_v347 : Ref sig .tc := ⟨.hbm, 455, rfl⟩
abbrev main_v348 : Ref sig .tc := ⟨.hbm, 456, rfl⟩
abbrev main_v349 : Ref sig .tc := ⟨.hbm, 457, rfl⟩
abbrev main_v350 : Ref sig .tc := ⟨.hbm, 458, rfl⟩
abbrev main_v351 : Ref sig .tc := ⟨.hbm, 459, rfl⟩
abbrev main_v352 : Ref sig .tc := ⟨.hbm, 460, rfl⟩
abbrev main_v353 : Ref sig .tc := ⟨.hbm, 461, rfl⟩
abbrev main_v354 : Ref sig .tc := ⟨.hbm, 462, rfl⟩
abbrev main_cst_38 : Ref sig .tc := ⟨.hbm, 463, rfl⟩
abbrev main_v355 : Ref sig .tc := ⟨.hbm, 464, rfl⟩
abbrev main_v356 : Ref sig .tc := ⟨.hbm, 465, rfl⟩
abbrev main_cst_39 : Ref sig .tc := ⟨.hbm, 466, rfl⟩
abbrev main_v357 : Ref sig .tc := ⟨.hbm, 467, rfl⟩
abbrev main_v358 : Ref sig .tc := ⟨.hbm, 468, rfl⟩
abbrev main_v359 : Ref sig .tc := ⟨.hbm, 469, rfl⟩
abbrev main_v360 : Ref sig .tc := ⟨.hbm, 470, rfl⟩
abbrev main_v361 : Ref sig .tc := ⟨.hbm, 471, rfl⟩
abbrev main_v362 : Ref sig .tc := ⟨.hbm, 472, rfl⟩
abbrev main_v363 : Ref sig .tc := ⟨.hbm, 473, rfl⟩
abbrev main_v364 : Ref sig .tc := ⟨.hbm, 474, rfl⟩
abbrev main_v365 : Ref sig .tc := ⟨.hbm, 475, rfl⟩
abbrev main_v366 : Ref sig .tc := ⟨.hbm, 476, rfl⟩
abbrev main_v367 : Ref sig .tc := ⟨.hbm, 477, rfl⟩
abbrev main_v368 : Ref sig .tc := ⟨.hbm, 478, rfl⟩
abbrev main_v369 : Ref sig .tc := ⟨.hbm, 479, rfl⟩
abbrev main_v370 : Ref sig .tc := ⟨.hbm, 480, rfl⟩
abbrev main_v371 : Ref sig .tc := ⟨.hbm, 481, rfl⟩
abbrev main_v372 : Ref sig .tc := ⟨.hbm, 482, rfl⟩
abbrev main_cst_40 : Ref sig .tc := ⟨.hbm, 483, rfl⟩
abbrev main_v373 : Ref sig .tc := ⟨.hbm, 484, rfl⟩
abbrev main_v374 : Ref sig .tc := ⟨.hbm, 485, rfl⟩
abbrev main_cst_41 : Ref sig .tc := ⟨.hbm, 486, rfl⟩
abbrev main_v375 : Ref sig .tc := ⟨.hbm, 487, rfl⟩
abbrev main_v376 : Ref sig .tc := ⟨.hbm, 488, rfl⟩
abbrev main_v377 : Ref sig .tc := ⟨.hbm, 489, rfl⟩
abbrev main_v378 : Ref sig .tc := ⟨.hbm, 490, rfl⟩
abbrev main_v379 : Ref sig .tc := ⟨.hbm, 491, rfl⟩
abbrev main_v380 : Ref sig .tc := ⟨.hbm, 492, rfl⟩
abbrev main_v381 : Ref sig .tc := ⟨.hbm, 493, rfl⟩
abbrev main_v382 : Ref sig .tc := ⟨.hbm, 494, rfl⟩
abbrev main_v383 : Ref sig .tc := ⟨.hbm, 495, rfl⟩
abbrev main_v384 : Ref sig .tc := ⟨.hbm, 496, rfl⟩
abbrev main_v385 : Ref sig .tc := ⟨.hbm, 497, rfl⟩
abbrev main_v386 : Ref sig .tc := ⟨.hbm, 498, rfl⟩
abbrev main_v387 : Ref sig .tc := ⟨.hbm, 499, rfl⟩
abbrev main_v388 : Ref sig .tc := ⟨.hbm, 500, rfl⟩
abbrev main_v389 : Ref sig .tc := ⟨.hbm, 501, rfl⟩
abbrev main_v390 : Ref sig .tc := ⟨.hbm, 502, rfl⟩
abbrev main_cst_42 : Ref sig .tc := ⟨.hbm, 503, rfl⟩
abbrev main_v391 : Ref sig .tc := ⟨.hbm, 504, rfl⟩
abbrev main_v392 : Ref sig .tc := ⟨.hbm, 505, rfl⟩
abbrev main_v393 : Ref sig .tc := ⟨.hbm, 506, rfl⟩
abbrev main_v394 : Ref sig .tc := ⟨.hbm, 507, rfl⟩
abbrev main_v395 : Ref sig .tc := ⟨.hbm, 508, rfl⟩
abbrev main_v396 : Ref sig .tc := ⟨.hbm, 509, rfl⟩
abbrev main_v397 : Ref sig .tc := ⟨.hbm, 510, rfl⟩
abbrev main_v398 : Ref sig .tc := ⟨.hbm, 511, rfl⟩
abbrev main_v399 : Ref sig .tc := ⟨.hbm, 512, rfl⟩
abbrev main_v400 : Ref sig .tc := ⟨.hbm, 513, rfl⟩
abbrev main_v401 : Ref sig .tc := ⟨.hbm, 514, rfl⟩
abbrev main_v402 : Ref sig .tc := ⟨.hbm, 515, rfl⟩
abbrev main_v403 : Ref sig .tc := ⟨.hbm, 516, rfl⟩
abbrev main_v404 : Ref sig .tc := ⟨.hbm, 517, rfl⟩
abbrev main_v405 : Ref sig .tc := ⟨.hbm, 518, rfl⟩
abbrev main_v406 : Ref sig .tc := ⟨.hbm, 519, rfl⟩
abbrev main_v407 : Ref sig .tc := ⟨.hbm, 520, rfl⟩
abbrev main_v408 : Ref sig .tc := ⟨.hbm, 521, rfl⟩
abbrev main_v409 : Ref sig .tc := ⟨.hbm, 522, rfl⟩
abbrev main_cst_43 : Ref sig .tc := ⟨.hbm, 523, rfl⟩
abbrev main_v410 : Ref sig .tc := ⟨.hbm, 524, rfl⟩
abbrev main_v411 : Ref sig .tc := ⟨.hbm, 525, rfl⟩
abbrev main_cst_44 : Ref sig .tc := ⟨.hbm, 526, rfl⟩
abbrev main_v412 : Ref sig .tc := ⟨.hbm, 527, rfl⟩
abbrev main_v413 : Ref sig .tc := ⟨.hbm, 528, rfl⟩
abbrev main_v414 : Ref sig .tc := ⟨.hbm, 529, rfl⟩
abbrev main_v415 : Ref sig .tc := ⟨.hbm, 530, rfl⟩
abbrev main_v416 : Ref sig .tc := ⟨.hbm, 531, rfl⟩
abbrev main_v417 : Ref sig .tc := ⟨.hbm, 532, rfl⟩
abbrev main_v418 : Ref sig .tc := ⟨.hbm, 533, rfl⟩
abbrev main_v419 : Ref sig .tc := ⟨.hbm, 534, rfl⟩
abbrev main_v420 : Ref sig .tc := ⟨.hbm, 535, rfl⟩
abbrev main_v421 : Ref sig .tc := ⟨.hbm, 536, rfl⟩
abbrev main_v422 : Ref sig .tc := ⟨.hbm, 537, rfl⟩
abbrev main_v423 : Ref sig .tc := ⟨.hbm, 538, rfl⟩
abbrev main_v424 : Ref sig .tc := ⟨.hbm, 539, rfl⟩
abbrev main_v425 : Ref sig .tc := ⟨.hbm, 540, rfl⟩
abbrev main_v426 : Ref sig .tc := ⟨.hbm, 541, rfl⟩
abbrev main_v427 : Ref sig .tc := ⟨.hbm, 542, rfl⟩
abbrev main_cst_45 : Ref sig .tc := ⟨.hbm, 543, rfl⟩
abbrev main_v428 : Ref sig .tc := ⟨.hbm, 544, rfl⟩
abbrev main_v429 : Ref sig .tc := ⟨.hbm, 545, rfl⟩
abbrev main_cst_46 : Ref sig .tc := ⟨.hbm, 546, rfl⟩
abbrev main_v430 : Ref sig .tc := ⟨.hbm, 547, rfl⟩
abbrev main_v431 : Ref sig .tc := ⟨.hbm, 548, rfl⟩
abbrev main_v432 : Ref sig .tc := ⟨.hbm, 549, rfl⟩
abbrev main_v433 : Ref sig .tc := ⟨.hbm, 550, rfl⟩
abbrev main_v434 : Ref sig .tc := ⟨.hbm, 551, rfl⟩
abbrev main_v435 : Ref sig .tc := ⟨.hbm, 552, rfl⟩
abbrev main_v436 : Ref sig .tc := ⟨.hbm, 553, rfl⟩
abbrev main_v437 : Ref sig .tc := ⟨.hbm, 554, rfl⟩
abbrev main_v438 : Ref sig .tc := ⟨.hbm, 555, rfl⟩
abbrev main_v439 : Ref sig .tc := ⟨.hbm, 556, rfl⟩
abbrev main_v440 : Ref sig .tc := ⟨.hbm, 557, rfl⟩
abbrev main_v441 : Ref sig .tc := ⟨.hbm, 558, rfl⟩
abbrev main_v442 : Ref sig .tc := ⟨.hbm, 559, rfl⟩
abbrev main_v443 : Ref sig .tc := ⟨.hbm, 560, rfl⟩
abbrev main_v444 : Ref sig .tc := ⟨.hbm, 561, rfl⟩
abbrev main_v445 : Ref sig .tc := ⟨.hbm, 562, rfl⟩
abbrev main_cst_47 : Ref sig .tc := ⟨.hbm, 563, rfl⟩
abbrev main_v446 : Ref sig .tc := ⟨.hbm, 564, rfl⟩
abbrev main_v447 : Ref sig .tc := ⟨.hbm, 565, rfl⟩
abbrev main_v448 : Ref sig .tc := ⟨.hbm, 566, rfl⟩
abbrev main_v449 : Ref sig .tc := ⟨.hbm, 567, rfl⟩
abbrev main_v450 : Ref sig .tc := ⟨.hbm, 568, rfl⟩
abbrev main_v451 : Ref sig .tc := ⟨.hbm, 569, rfl⟩
abbrev main_v452 : Ref sig .tc := ⟨.hbm, 570, rfl⟩
abbrev main_v453 : Ref sig .tc := ⟨.hbm, 571, rfl⟩
abbrev main_v454 : Ref sig .tc := ⟨.hbm, 572, rfl⟩
abbrev main_v455 : Ref sig .tc := ⟨.hbm, 573, rfl⟩
abbrev main_v456 : Ref sig .tc := ⟨.hbm, 574, rfl⟩
abbrev main_v457 : Ref sig .tc := ⟨.hbm, 575, rfl⟩
abbrev main_v458 : Ref sig .tc := ⟨.hbm, 576, rfl⟩
abbrev main_v459 : Ref sig .tc := ⟨.hbm, 577, rfl⟩
abbrev main_v460 : Ref sig .tc := ⟨.hbm, 578, rfl⟩
abbrev main_v461 : Ref sig .tc := ⟨.hbm, 579, rfl⟩
abbrev main_v462 : Ref sig .tc := ⟨.hbm, 580, rfl⟩
abbrev main_v463 : Ref sig .tc := ⟨.hbm, 581, rfl⟩
abbrev main_v464 : Ref sig .tc := ⟨.hbm, 582, rfl⟩
abbrev main_cst_48 : Ref sig .tc := ⟨.hbm, 583, rfl⟩
abbrev main_v465 : Ref sig .tc := ⟨.hbm, 584, rfl⟩
abbrev main_v466 : Ref sig .tc := ⟨.hbm, 585, rfl⟩
abbrev main_cst_49 : Ref sig .tc := ⟨.hbm, 586, rfl⟩
abbrev main_v467 : Ref sig .tc := ⟨.hbm, 587, rfl⟩
abbrev main_v468 : Ref sig .tc := ⟨.hbm, 588, rfl⟩
abbrev main_v469 : Ref sig .tc := ⟨.hbm, 589, rfl⟩
abbrev main_v470 : Ref sig .tc := ⟨.hbm, 590, rfl⟩
abbrev main_v471 : Ref sig .tc := ⟨.hbm, 591, rfl⟩
abbrev main_v472 : Ref sig .tc := ⟨.hbm, 592, rfl⟩
abbrev main_v473 : Ref sig .tc := ⟨.hbm, 593, rfl⟩
abbrev main_v474 : Ref sig .tc := ⟨.hbm, 594, rfl⟩
abbrev main_v475 : Ref sig .tc := ⟨.hbm, 595, rfl⟩
abbrev main_v476 : Ref sig .tc := ⟨.hbm, 596, rfl⟩
abbrev main_v477 : Ref sig .tc := ⟨.hbm, 597, rfl⟩
abbrev main_v478 : Ref sig .tc := ⟨.hbm, 598, rfl⟩
abbrev main_v479 : Ref sig .tc := ⟨.hbm, 599, rfl⟩
abbrev main_v480 : Ref sig .tc := ⟨.hbm, 600, rfl⟩
abbrev main_v481 : Ref sig .tc := ⟨.hbm, 601, rfl⟩
abbrev main_v482 : Ref sig .tc := ⟨.hbm, 602, rfl⟩
abbrev main_cst_50 : Ref sig .tc := ⟨.hbm, 603, rfl⟩
abbrev main_v483 : Ref sig .tc := ⟨.hbm, 604, rfl⟩
abbrev main_v484 : Ref sig .tc := ⟨.hbm, 605, rfl⟩
abbrev main_cst_51 : Ref sig .tc := ⟨.hbm, 606, rfl⟩
abbrev main_v485 : Ref sig .tc := ⟨.hbm, 607, rfl⟩
abbrev main_v486 : Ref sig .tc := ⟨.hbm, 608, rfl⟩
abbrev main_v487 : Ref sig .tc := ⟨.hbm, 609, rfl⟩
abbrev main_v488 : Ref sig .tc := ⟨.hbm, 610, rfl⟩
abbrev main_v489 : Ref sig .tc := ⟨.hbm, 611, rfl⟩
abbrev main_v490 : Ref sig .tc := ⟨.hbm, 612, rfl⟩
abbrev main_v491 : Ref sig .tc := ⟨.hbm, 613, rfl⟩
abbrev main_v492 : Ref sig .tc := ⟨.hbm, 614, rfl⟩
abbrev main_v493 : Ref sig .tc := ⟨.hbm, 615, rfl⟩
abbrev main_v494 : Ref sig .tc := ⟨.hbm, 616, rfl⟩
abbrev main_v495 : Ref sig .tc := ⟨.hbm, 617, rfl⟩
abbrev main_v496 : Ref sig .tc := ⟨.hbm, 618, rfl⟩
abbrev main_v497 : Ref sig .tc := ⟨.hbm, 619, rfl⟩
abbrev main_v498 : Ref sig .tc := ⟨.hbm, 620, rfl⟩
abbrev main_v499 : Ref sig .tc := ⟨.hbm, 621, rfl⟩
abbrev main_v500 : Ref sig .tc := ⟨.hbm, 622, rfl⟩
abbrev main_cst_52 : Ref sig .tc := ⟨.hbm, 623, rfl⟩
abbrev main_v501 : Ref sig .tc := ⟨.hbm, 624, rfl⟩
abbrev main_v502 : Ref sig .tc := ⟨.hbm, 625, rfl⟩
abbrev main_v503 : Ref sig .tc := ⟨.hbm, 626, rfl⟩
abbrev main_v504 : Ref sig .tc := ⟨.hbm, 627, rfl⟩
abbrev main_v505 : Ref sig .tc := ⟨.hbm, 628, rfl⟩
abbrev main_v506 : Ref sig .tc := ⟨.hbm, 629, rfl⟩
abbrev main_v507 : Ref sig .tc := ⟨.hbm, 630, rfl⟩
abbrev main_v508 : Ref sig .tc := ⟨.hbm, 631, rfl⟩
abbrev main_v509 : Ref sig .tc := ⟨.hbm, 632, rfl⟩
abbrev main_v510 : Ref sig .tc := ⟨.hbm, 633, rfl⟩
abbrev main_v511 : Ref sig .tc := ⟨.hbm, 634, rfl⟩
abbrev main_v512 : Ref sig .tc := ⟨.hbm, 635, rfl⟩
abbrev main_v513 : Ref sig .tc := ⟨.hbm, 636, rfl⟩
abbrev main_v514 : Ref sig .tc := ⟨.hbm, 637, rfl⟩
abbrev main_v515 : Ref sig .tc := ⟨.hbm, 638, rfl⟩
abbrev main_v516 : Ref sig .tc := ⟨.hbm, 639, rfl⟩
abbrev main_v517 : Ref sig .tc := ⟨.hbm, 640, rfl⟩
abbrev main_v518 : Ref sig .tc := ⟨.hbm, 641, rfl⟩
abbrev main_v519 : Ref sig .tc := ⟨.hbm, 642, rfl⟩
abbrev main_cst_53 : Ref sig .tc := ⟨.hbm, 643, rfl⟩
abbrev main_v520 : Ref sig .tc := ⟨.hbm, 644, rfl⟩
abbrev main_v521 : Ref sig .tc := ⟨.hbm, 645, rfl⟩
abbrev main_cst_54 : Ref sig .tc := ⟨.hbm, 646, rfl⟩
abbrev main_v522 : Ref sig .tc := ⟨.hbm, 647, rfl⟩
abbrev main_v523 : Ref sig .tc := ⟨.hbm, 648, rfl⟩
abbrev main_v524 : Ref sig .tc := ⟨.hbm, 649, rfl⟩
abbrev main_v525 : Ref sig .tc := ⟨.hbm, 650, rfl⟩
abbrev main_v526 : Ref sig .tc := ⟨.hbm, 651, rfl⟩
abbrev main_v527 : Ref sig .tc := ⟨.hbm, 652, rfl⟩
abbrev main_v528 : Ref sig .tc := ⟨.hbm, 653, rfl⟩
abbrev main_v529 : Ref sig .tc := ⟨.hbm, 654, rfl⟩
abbrev main_v530 : Ref sig .tc := ⟨.hbm, 655, rfl⟩
abbrev main_v531 : Ref sig .tc := ⟨.hbm, 656, rfl⟩
abbrev main_v532 : Ref sig .tc := ⟨.hbm, 657, rfl⟩
abbrev main_v533 : Ref sig .tc := ⟨.hbm, 658, rfl⟩
abbrev main_v534 : Ref sig .tc := ⟨.hbm, 659, rfl⟩
abbrev main_v535 : Ref sig .tc := ⟨.hbm, 660, rfl⟩
abbrev main_v536 : Ref sig .tc := ⟨.hbm, 661, rfl⟩
abbrev main_v537 : Ref sig .tc := ⟨.hbm, 662, rfl⟩
abbrev main_cst_55 : Ref sig .tc := ⟨.hbm, 663, rfl⟩
abbrev main_v538 : Ref sig .tc := ⟨.hbm, 664, rfl⟩
abbrev main_v539 : Ref sig .tc := ⟨.hbm, 665, rfl⟩
abbrev main_cst_56 : Ref sig .tc := ⟨.hbm, 666, rfl⟩
abbrev main_v540 : Ref sig .tc := ⟨.hbm, 667, rfl⟩
abbrev main_v541 : Ref sig .tc := ⟨.hbm, 668, rfl⟩
abbrev main_v542 : Ref sig .tc := ⟨.hbm, 669, rfl⟩
abbrev main_v543 : Ref sig .tc := ⟨.hbm, 670, rfl⟩
abbrev main_v544 : Ref sig .tc := ⟨.hbm, 671, rfl⟩
abbrev main_v545 : Ref sig .tc := ⟨.hbm, 672, rfl⟩
abbrev main_v546 : Ref sig .tc := ⟨.hbm, 673, rfl⟩
abbrev main_v547 : Ref sig .tc := ⟨.hbm, 674, rfl⟩
abbrev main_v548 : Ref sig .tc := ⟨.hbm, 675, rfl⟩
abbrev main_v549 : Ref sig .tc := ⟨.hbm, 676, rfl⟩
abbrev main_v550 : Ref sig .tc := ⟨.hbm, 677, rfl⟩
abbrev main_v551 : Ref sig .tc := ⟨.hbm, 678, rfl⟩
abbrev main_v552 : Ref sig .tc := ⟨.hbm, 679, rfl⟩
abbrev main_v553 : Ref sig .tc := ⟨.hbm, 680, rfl⟩
abbrev main_v554 : Ref sig .tc := ⟨.hbm, 681, rfl⟩
abbrev main_v555 : Ref sig .tc := ⟨.hbm, 682, rfl⟩
abbrev main_cst_57 : Ref sig .tc := ⟨.hbm, 683, rfl⟩
abbrev main_v556 : Ref sig .tc := ⟨.hbm, 684, rfl⟩
abbrev main_v557 : Ref sig .tc := ⟨.hbm, 685, rfl⟩
abbrev main_v558 : Ref sig .tc := ⟨.hbm, 686, rfl⟩
abbrev main_v559 : Ref sig .tc := ⟨.hbm, 687, rfl⟩
abbrev main_v560 : Ref sig .tc := ⟨.hbm, 688, rfl⟩
abbrev main_v561 : Ref sig .tc := ⟨.hbm, 689, rfl⟩
abbrev main_v562 : Ref sig .tc := ⟨.hbm, 690, rfl⟩
abbrev main_v563 : Ref sig .tc := ⟨.hbm, 691, rfl⟩
abbrev main_v564 : Ref sig .tc := ⟨.hbm, 692, rfl⟩
abbrev main_v565 : Ref sig .tc := ⟨.hbm, 693, rfl⟩
abbrev main_call6_cst : Ref sig .tc := ⟨.hbm, 694, rfl⟩
abbrev main_call6_v0 : Ref sig .tc := ⟨.hbm, 695, rfl⟩
abbrev main_v566 : Ref sig .tc := ⟨.hbm, 696, rfl⟩
abbrev main_v567 : Ref sig .tc := ⟨.hbm, 697, rfl⟩
abbrev main_v568 : Ref sig .tc := ⟨.hbm, 698, rfl⟩
abbrev main_v569 : Ref sig .tc := ⟨.hbm, 699, rfl⟩
abbrev main_v570 : Ref sig .tc := ⟨.hbm, 700, rfl⟩

abbrev nD : Nat := 1
abbrev τ : Topo := Topo.v7x

variable {F : FTy → Type} [FloatOps F]
-- ==== Proof.Frames.lean ====
/- The frames of the three programs (they run, end with every counter at zero and leave the arguments alone), the
   side conditions of the precondition's own operations, and the one idealized constant. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Lib.Quiescent

@[expose] public section

noncomputable section

namespace Cert.Frames

open Idealize.ShloMosaic Idealize.SL.Sem

/-- The shape relations the precondition's operations take. -/
theorem preFacts : Cert.Pre_finite.Facts where
  bcast_S_S16x200x192 := by decide
  bcast_S_S4x200x200 := by decide
  bcast_S_S16x256 := by decide
  bcast_S_S256 := by decide
  bcast_S_S8x256x64 := by decide
  bcast_S_S8x64 := by decide
  reducesTo_S4x200x200_S4x200_d2 := by decide
  h_S_ := by decide
  bcast_S_S4x200 := by decide

/-- The kernel's frame, over the bits. -/
theorem kernel : Cert.quiescent_Kernel (hKernel := Cert.Kernel.Gen.facts) :=
  fun m g _ => Cert.Kernel.Gen.frame m g

/-- The idealized kernel's frame. -/
theorem kernelIdeal : Cert.quiescent_KernelIdeal (hKernelIdeal := Cert.KernelIdeal.Gen.facts) :=
  fun m g _ => Cert.KernelIdeal.Gen.frame m g

/-- The idealized kernel's frame under the precondition. -/
theorem kernelIdealPre :
    Cert.quiescent_KernelIdeal_pre_finite (hKernelIdeal := Cert.KernelIdeal.Gen.facts) (hPre_finite := preFacts) :=
  fun m g _ => Cert.KernelIdeal.Gen.frame m g

/-- The idealized reference's frame. -/
theorem referenceIdeal : Cert.quiescent_ReferenceIdeal (hReferenceIdeal := Cert.ReferenceIdeal.Gen.facts) :=
  fun m g _ => (θ_run Cert.ReferenceIdeal.defs _ _).mono (fun _ h => ⟨fun c => (h c).2, sem_eq_zero_of_no_sems (by decide) _⟩)
    (Cert.ReferenceIdeal.Value.run m g)

/-- The idealized reference's frame under the precondition. -/
theorem referenceIdealPre :
    Cert.quiescent_ReferenceIdeal_pre_finite (hReferenceIdeal := Cert.ReferenceIdeal.Gen.facts) (hPre_finite := preFacts) :=
  fun m g _ => referenceIdeal m g trivial

/-- The leaky slope is the one constant the idealized kernel names: the bfloat16 nearest to `0.2` is the float32 nearest to it. -/
theorem preserves : Cert.preserves_Kernel_KernelIdeal :=
  IdealRules.named_const.statement Cert.KernelIdeal.κ "slope" .bf16 0x3E4D#16 _ rfl

end Cert.Frames

end
end
-- ==== Proof.NodeSpec.lean ====
/- The arithmetic of the node stage for ONE node of the graph, over the extended reals: the normalised
   hidden layer of one item, and the mean over the twelve items of one attention head's column — once
   in the order the kernel computes it, once in the order of the reference. -/
module

public import Idealize.ShloMosaic.PureOps.Ideal

@[expose] public section

noncomputable section

namespace Cert.Spec

open Idealize.ShloMosaic

/-- The float 256, the width of the hidden layer. -/
def c256 : EReal := Ideal.ofBits .f32 0x43800000#32
/-- The float 1e-5 that steadies the variance. -/
def epsLn : EReal := Ideal.ofBits .f32 0x3727C5AC#32
/-- The float 12, the number of items of a node. -/
def c12 : EReal := Ideal.ofBits .f32 0x41400000#32

/-- One row of the input projection: `x · w + b` at feature `f`. -/
def lin (x : Fin 16 → EReal) (w : Fin 16 → Fin 256 → EReal) (b : Fin 256 → EReal) (f : Fin 256) : EReal :=
  ∑ k, x k * w k f + b f

/-- The mean of a row. -/
def mean (p : Fin 256 → EReal) : EReal := Ideal.div (∑ f, p f) c256

/-- The variance of a row. -/
def var (p : Fin 256 → EReal) : EReal :=
  Ideal.div (∑ f, (p f - mean p) * (p f - mean p)) c256

/-- The normalised row clipped at zero, multiplying by the reciprocal square root (the kernel's order). -/
def normK (p g e : Fin 256 → EReal) (f : Fin 256) : EReal :=
  max ((p f - mean p) * Ideal.rsqrt (var p + epsLn) * g f + e f) 0

/-- The normalised row clipped at zero, dividing by the square root (the reference's order). -/
def normR (p g e : Fin 256 → EReal) (f : Fin 256) : EReal :=
  max (Ideal.div (p f - mean p) (Ideal.sqrt (var p + epsLn)) * g f + e f) 0

/-- The leaky rectifier of slope `s`. -/
def leaky (s x : EReal) : EReal := if 0 ≤ x then x else s * x

/-- One entry of a row against one column. -/
def proj (h : Fin 12 → Fin 256 → EReal) (w : Fin 256 → EReal) (j : Fin 12) : EReal := ∑ f, h j f * w f

/-- The kernel's attention weight of item `j` for item `i`, before it is divided by the row's sum:
    `ws` and `wd` are the head's columns for the source and the destination. -/
def weight (s : EReal) (h : Fin 12 → Fin 256 → EReal) (ws wd : Fin 256 → EReal) (i j : Fin 12) : EReal :=
  Ideal.exp (leaky s (proj h ws i + proj h wd j))

/-- The exponential linear unit, in the kernel's spelling. -/
def eluK (x : EReal) : EReal := if 0 < x then x else Ideal.exp (min x 0) - 1

/-- The kernel's output of a node at one column `w` of one head. -/
def nodeK (s : EReal) (h : Fin 12 → Fin 256 → EReal) (ws wd w : Fin 256 → EReal) : EReal :=
  Ideal.div (∑ i, eluK ((∑ j, weight s h ws wd i j * proj h w j) * Ideal.div 1 (∑ j, weight s h ws wd i j))) c12

end Cert.Spec

end
end
-- ==== Proof.NodePay.lean ====
/- The body of the first region, read at one element of the block it stores: row `n` and column `c` of the block
   hold the kernel's node value of the block's node `n` at column `c`. -/
module

public import proofs.«01_k».proof.Proof.Gen.KernelIdeal.Skeleton
public import proofs.«01_k».proof.Proof.NodeSpec
public import Idealize.ShloMosaic.Lib.Pointwise

@[expose] public section

set_option maxRecDepth 16384

noncomputable section

namespace Cert.KernelIdeal.Node

open Idealize.ShloMosaic Idealize.ShloMosaic.TcCoe Idealize.SL.Sem
open Cert.KernelIdeal Cert.KernelIdeal.Gen

/-- The kernel's leaky slope, as the program names it. -/
def slope : EReal := Named.named (F := Ideal) (φ := .bf16) κ "slope" 0x3E4D#16

/-- Row `n * 12 + i` of a block of 768 rows: item `i` of node `n`. -/
def row (n : Fin 64) (i : Fin 12) : Fin 768 := ⟨n.val * 12 + i.val, by omega⟩

/-- The normalised hidden layer of one row of the block. -/
theorem pay1_at (x : FVec Ideal S768x16 .f32) (w : FVec Ideal S16x256 .f32) (b g e : FVec Ideal S1x256 .f32)
    (r : Fin 768) (f : Fin 256) :
    k0_pay1 (F := Ideal) x w b g e (ix2 r f)
      = Spec.normK (Spec.lin (fun k => x (ix2 r k)) (fun k f => w (ix2 k f)) (fun f => b (ix2 0 f)))
          (fun f => g (ix2 0 f)) (fun f => e (ix2 0 f)) f := by
  pointwise [k0_pay1]
  rfl

/-- The attention weight, before division, of one pair of items at one head. -/
theorem pay3_at (h : FVec Ideal S768x256 .bf16) (ws wd : FVec Ideal S256x16 .bf16)
    (n : Fin 64) (i j : Fin 12) (c : Fin 16) :
    k0_pay3 (F := Ideal) h ws wd (ix4 n i j c)
      = Spec.weight slope (fun i f => h (ix2 (row n i) f)) (fun f => ws (ix2 f c)) (fun f => wd (ix2 f c)) i j := by
  pointwise [k0_pay3]
  rfl

/-- The row sum of the attention weights. -/
theorem pay4_at (h : FVec Ideal S768x256 .bf16) (ws wd : FVec Ideal S256x16 .bf16)
    (n : Fin 64) (i : Fin 12) (c : Fin 16) :
    k0_pay4 (F := Ideal) h ws wd (ix3 n i c)
      = ∑ j, Spec.weight slope (fun i f => h (ix2 (row n i) f)) (fun f => ws (ix2 f c)) (fun f => wd (ix2 f c)) i j := by
  pointwise [k0_pay4]
  exact Finset.sum_congr rfl fun j _ => pay3_at h ws wd n i j c

/-- The projection of one item at one column of one head. -/
theorem pay5_at (h : FVec Ideal S768x256 .bf16) (w : FVec Ideal S256x1024 .bf16)
    (n : Fin 64) (i : Fin 12) (c : Fin 16) (o : Fin 64) :
    k0_pay5 (F := Ideal) h w (constant S768x1024 .f32 0x00000000#32) (ix4 n i c o)
      = Spec.proj (fun i f => h (ix2 (row n i) f)) (fun f => w (ix2 f ⟨c.val * 64 + o.val, by omega⟩)) i := by
  pointwise [k0_pay5]
  rfl

/-- A sum over the twelve items, spelt out from the left. -/
theorem sum_twelve (f : Fin 12 → EReal) :
    ∑ j, f j = f 0 + f 1 + f 2 + f 3 + f 4 + f 5 + f 6 + f 7 + f 8 + f 9 + f 10 + f 11 := by
  simp only [Fin.sum_univ_castSucc, Fin.sum_univ_zero, zero_add]
  rfl

/-- The stored block at node `n` and column `c`, over the weights `v61`, their row sums `v63` and the
    projections `v64`: the mean over the items of the rectified weighted mean. -/
theorem tail_at (h : FVec Ideal S768x256 .bf16) (w : FVec Ideal S256x1024 .bf16) (ws wd : FVec Ideal S256x16 .bf16)
    (v61 : FVec Ideal S64x12x12x16 .bf16) (v63 : FVec Ideal S64x12x16 .f32) (v64 : FVec Ideal S64x12x16x64 .bf16)
    (h61 : k0_pay3 (F := Ideal) h ws wd = v61)
    (h64 : k0_pay5 (F := Ideal) h w (constant S768x1024 .f32 0x00000000#32) = v64)
    (n : Fin 64) (c : Fin 1024) :
    k0_pay12 (F := Ideal) v61 v63 v64
        (k0_pay9 v61 v64 (k0_pay6 h w (constant S768x1024 .f32 0x00000000#32) ws wd) (k0_pay7 h ws wd)
          (k0_pay8 h w (constant S768x1024 .f32 0x00000000#32)))
        (k0_pay10 v61) (k0_pay11 v64) (ix2 n c)
      = Ideal.div (∑ i : Fin 12, Spec.eluK
          ((∑ j : Fin 12, v61 (ix4 n i j ⟨c.val / 64, by omega⟩) * v64 (ix4 n j ⟨c.val / 64, by omega⟩ ⟨c.val % 64, by omega⟩))
            * Ideal.div 1 (v63 (ix3 n i ⟨c.val / 64, by omega⟩)))) Spec.c12 := by
  pointwise [k0_pay12, k0_pay10, k0_pay11, k0_pay9, k0_pay8, k0_pay7, k0_pay6, h61, h64]
  simp only [sum_twelve (fun j => v61 (ix4 n _ j _) * v64 (ix4 n j _ _))]
  rfl

/-- THE BLOCK: what the body of the first region stores at row `n`, column `c`, over its eight input blocks. -/
theorem block_at (x : FVec Ideal S768x16 .f32) (wi : FVec Ideal S16x256 .f32) (b g e : FVec Ideal S1x256 .f32)
    (w : FVec Ideal S256x1024 .bf16) (ws wd : FVec Ideal S256x16 .bf16) (n : Fin 64) (c : Fin 1024) :
    k0_pay12 (F := Ideal) (k0_pay3 (k0_pay1 x wi b g e) ws wd) (k0_pay4 (k0_pay1 x wi b g e) ws wd)
        (k0_pay5 (k0_pay1 x wi b g e) w (constant S768x1024 .f32 0x00000000#32))
        (k0_pay9 (k0_pay3 (k0_pay1 x wi b g e) ws wd)
          (k0_pay5 (k0_pay1 x wi b g e) w (constant S768x1024 .f32 0x00000000#32))
          (k0_pay6 (k0_pay1 x wi b g e) w (constant S768x1024 .f32 0x00000000#32) ws wd)
          (k0_pay7 (k0_pay1 x wi b g e) ws wd)
          (k0_pay8 (k0_pay1 x wi b g e) w (constant S768x1024 .f32 0x00000000#32)))
        (k0_pay10 (k0_pay3 (k0_pay1 x wi b g e) ws wd))
        (k0_pay11 (k0_pay5 (k0_pay1 x wi b g e) w (constant S768x1024 .f32 0x00000000#32))) (ix2 n c)
      = Spec.nodeK slope
          (fun i => Spec.normK (Spec.lin (fun k => x (ix2 (row n i) k)) (fun k f => wi (ix2 k f)) (fun f => b (ix2 0 f)))
            (fun f => g (ix2 0 f)) (fun f => e (ix2 0 f)))
          (fun f => ws (ix2 f ⟨c.val / 64, by omega⟩)) (fun f => wd (ix2 f ⟨c.val / 64, by omega⟩))
          (fun f => w (ix2 f c)) := by
  refine (tail_at (k0_pay1 x wi b g e) w ws wd _ _ _ rfl rfl n c).trans ?_
  have hc : (⟨c.val / 64 * 64 + c.val % 64, by omega⟩ : Fin 1024) = c := Fin.ext (by show c.val / 64 * 64 + c.val % 64 = c.val; omega)
  simp only [pay3_at, pay4_at, pay5_at, pay1_at, hc]
  rfl

end Cert.KernelIdeal.Node

end
end
-- ==== Proof.NodeArr.lean ====
/- What the first region leaves in its output array, over the arrays it is entered with: row `r` and column `c`
   hold the kernel's node value of node `r` at column `c`. -/
module

public import proofs.«01_k».proof.Proof.Gen.KernelIdeal.Frame
public import proofs.«01_k».proof.Proof.NodePay
public import Idealize.ShloMosaic.Lib.Pipeline.ValueKit

@[expose] public section

set_option maxRecDepth 16384

noncomputable section

namespace Cert.KernelIdeal.Node

open Idealize.ShloMosaic Idealize.ShloMosaic.TcCoe Idealize.SL.Sem
open Idealize.ShloMosaic.Pipeline (Dat)
open Cert.KernelIdeal Cert.KernelIdeal.Gen

/-- The node stage's array, over its eight operands. -/
def arr (x : FVec Ideal S38400x16 .f32) (wi : FVec Ideal S16x256 .f32) (b g e : FVec Ideal S1x256 .f32)
    (w : FVec Ideal S256x1024 .bf16) (ws wd : FVec Ideal S256x16 .bf16) : FVec Ideal S3200x1024 .f32 := fun j =>
  Spec.nodeK slope
    (fun i => Spec.normK (Spec.lin (fun k => x (ix2 ⟨(j 0).val * 12 + i.val, by have := (j 0).isLt; change (j 0).val < 3200 at this; omega⟩ k))
        (fun k f => wi (ix2 k f)) (fun f => b (ix2 0 f)))
      (fun f => g (ix2 0 f)) (fun f => e (ix2 0 f)))
    (fun f => ws (ix2 f ⟨(j 1).val / 64, by have := (j 1).isLt; change (j 1).val < 1024 at this; omega⟩))
    (fun f => wd (ix2 f ⟨(j 1).val / 64, by have := (j 1).isLt; change (j 1).val < 1024 at this; omega⟩))
    (fun f => w (ix2 f (j 1)))

/-- Every window's block position: the first and the last move with the grid, the others stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)

variable (V : (c : Dev nD) → (b : Ref sig .tc) → Buf (Elt Ideal) ((c : Thread nD τ).loc b)) (c : Dev nD) (t : Fin cfg0.N)

/-- Operand 1 is read whole at every step. -/
theorem in1 : iblk0 V c 1 t = V c main_arg2 := by blk_ext! [iblk0, idx t]
/-- Operand 2 is read whole at every step. -/
theorem in2 : iblk0 V c 2 t = V c main_v19 := by blk_ext! [iblk0, idx t]
/-- Operand 3 is read whole at every step. -/
theorem in3 : iblk0 V c 3 t = V c main_v20 := by blk_ext! [iblk0, idx t]
/-- Operand 4 is read whole at every step. -/
theorem in4 : iblk0 V c 4 t = V c main_v21 := by blk_ext! [iblk0, idx t]
/-- Operand 5 is read whole at every step. -/
theorem in5 : iblk0 V c 5 t = V c main_v15 := by blk_ext! [iblk0, idx t]
/-- Operand 6 is read whole at every step. -/
theorem in6 : iblk0 V c 6 t = V c main_v16 := by blk_ext! [iblk0, idx t]
/-- Operand 7 is read whole at every step. -/
theorem in7 : iblk0 V c 7 t = V c main_v17 := by blk_ext! [iblk0, idx t]

/-- A row of the block of inputs is the corresponding row of the array. -/
theorem in0 (n : Fin 64) (i : Fin 12) (k : Fin 16) (h : (t.val * 64 + n.val) * 12 + i.val < 38400) :
    (show FVec Ideal S768x16 .f32 from iblk0 V c 0 t) (ix2 (row n i) k)
      = (show FVec Ideal S38400x16 .f32 from V c main_v18) (ix2 ⟨(t.val * 64 + n.val) * 12 + i.val, h⟩ k) := by
  unfold row
  blk_ext [iblk0, idx t]

/-- The recast projection weights are the weights. -/
theorem pay2_eq (w : FVec Ideal S256x1024 .bf16) : k0_pay2 (F := Ideal) w = w := by
  funext j; pointwise [k0_pay2]

/-- The stored block at one element, over the eight blocks read. -/
theorem out_at (x : FVec Ideal S768x16 .f32) (wi : FVec Ideal S16x256 .f32) (b g e : FVec Ideal S1x256 .f32)
    (w : FVec Ideal S256x1024 .bf16) (ws wd : FVec Ideal S256x16 .bf16) (n : Fin 64) (c : Fin 1024) :
    out0_8 (F := Ideal) x wi b g e w ws wd (ix2 n c)
      = Spec.nodeK slope
          (fun i => Spec.normK (Spec.lin (fun k => x (ix2 (row n i) k)) (fun k f => wi (ix2 k f)) (fun f => b (ix2 0 f)))
            (fun f => g (ix2 0 f)) (fun f => e (ix2 0 f)))
          (fun f => ws (ix2 f ⟨c.val / 64, by have := c.isLt; omega⟩))
          (fun f => wd (ix2 f ⟨c.val / 64, by have := c.isLt; omega⟩)) (fun f => w (ix2 f c)) := by
  unfold_out out0_8; frame_out
  simp only [pay2_eq]
  exact block_at x wi b g e w ws wd n c

/-- THE BRIDGE: the output array at the region's exit. -/
theorem final : (dat0 V c).arrAt 8 cfg0.N
    = arr (V c main_v18) (V c main_arg2) (V c main_v19) (V c main_v20) (V c main_v21) (V c main_v15) (V c main_v16) (V c main_v17) := by
  refine (dat0 V c).arrAt_eq_of_covers 8 _ (by decide +kernel) fun t _ y => ?_
  blk_simp
  rw [after0_8]
  idx_vars y
  rw [in1, in2, in3, in4, in5, in6, in7]
  refine (out_at _ _ _ _ _ _ _ _ y0 y1).trans ?_
  have ht : t.val < 50 := t.isLt
  have e : (((View.whole main_v22).slice (win0_8.rect t)).emb (ix2 y0 y1)) = (ix2 (⟨t.val * 64 + y0.val, by omega⟩ : Fin 3200) y1 : S3200x1024.Idx) := by
    blk_ext [idx t]
  rw [e]
  have h0 := fun (i : Fin 12) (k : Fin 16) => in0 V c t y0 i k (by omega)
  simp only [h0]
  rfl

end Cert.KernelIdeal.Node

end
end
-- ==== Proof.Host.lean ====
/- The host operations around the two regions, read at one element: what each region's operands hold, over the
   arguments as launched and over the first region's output. -/
module

public import proofs.«01_k».proof.Proof.Gen.KernelIdeal.Frame
public import proofs.«01_k».proof.Proof.NodeArr
public import Idealize.ShloMosaic.Lib.Claim
public import Idealize.ShloMosaic.Lib.Pointwise

@[expose] public section

set_option maxRecDepth 16384

noncomputable section

namespace Cert.KernelIdeal.Host

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-! ## The first region's operands -/

/-- Argument 0 as launched. -/
abbrev a0 : FVec Ideal S16x200x192 .f32 := m ((c.tc : Thread nD τ).loc main_arg0)
/-- Argument 1 as launched. -/
abbrev a1 : FVec Ideal S4x200x200 .f32 := m ((c.tc : Thread nD τ).loc main_arg1)
/-- Argument 2 as launched. -/
abbrev a2 : FVec Ideal S16x256 .f32 := m ((c.tc : Thread nD τ).loc main_arg2)
/-- Argument 3 as launched. -/
abbrev a3 : FVec Ideal S256 .f32 := m ((c.tc : Thread nD τ).loc main_arg3)
/-- Argument 4 as launched. -/
abbrev a4 : FVec Ideal S256 .f32 := m ((c.tc : Thread nD τ).loc main_arg4)
/-- Argument 5 as launched. -/
abbrev a5 : FVec Ideal S256 .f32 := m ((c.tc : Thread nD τ).loc main_arg5)
/-- Argument 6 as launched. -/
abbrev a6 : FVec Ideal S8x256x64 .f32 := m ((c.tc : Thread nD τ).loc main_arg6)
/-- Argument 7 as launched. -/
abbrev a7 : FVec Ideal S8x64 .f32 := m ((c.tc : Thread nD τ).loc main_arg7)
/-- Argument 8 as launched. -/
abbrev a8 : FVec Ideal S8x64 .f32 := m ((c.tc : Thread nD τ).loc main_arg8)
/-- Argument 9 as launched. -/
abbrev a9 : FVec Ideal S8x256x64 .f32 := m ((c.tc : Thread nD τ).loc main_arg9)
/-- Argument 10 as launched. -/
abbrev a10 : FVec Ideal S8x64 .f32 := m ((c.tc : Thread nD τ).loc main_arg10)
/-- Argument 11 as launched. -/
abbrev a11 : FVec Ideal S8x64 .f32 := m ((c.tc : Thread nD τ).loc main_arg11)
/-- Argument 12 as launched. -/
abbrev a12 : FVec Ideal S1024x256 .f32 := m ((c.tc : Thread nD τ).loc main_arg12)
/-- Argument 13 as launched. -/
abbrev a13 : FVec Ideal S1024x256 .f32 := m ((c.tc : Thread nD τ).loc main_arg13)
/-- Argument 14 as launched. -/
abbrev a14 : FVec Ideal S256 .f32 := m ((c.tc : Thread nD τ).loc main_arg14)
/-- Argument 15 as launched. -/
abbrev a15 : FVec Ideal S3x256x128 .f32 := m ((c.tc : Thread nD τ).loc main_arg15)
/-- Argument 16 as launched. -/
abbrev a16 : FVec Ideal S3x128x128 .f32 := m ((c.tc : Thread nD τ).loc main_arg16)
/-- Argument 17 as launched. -/
abbrev a17 : FVec Ideal S3x128 .f32 := m ((c.tc : Thread nD τ).loc main_arg17)
/-- Argument 18 as launched. -/
abbrev a18 : FVec Ideal S3x256x128 .f32 := m ((c.tc : Thread nD τ).loc main_arg18)
/-- Argument 19 as launched. -/
abbrev a19 : FVec Ideal S3x128x128 .f32 := m ((c.tc : Thread nD τ).loc main_arg19)
/-- Argument 20 as launched. -/
abbrev a20 : FVec Ideal S3x128 .f32 := m ((c.tc : Thread nD τ).loc main_arg20)
/-- Argument 21 as launched. -/
abbrev a21 : FVec Ideal S1280x256 .f32 := m ((c.tc : Thread nD τ).loc main_arg21)
/-- Argument 22 as launched. -/
abbrev a22 : FVec Ideal S256 .f32 := m ((c.tc : Thread nD τ).loc main_arg22)
/-- Argument 23 as launched. -/
abbrev a23 : FVec Ideal S256x8 .f32 := m ((c.tc : Thread nD τ).loc main_arg23)
/-- Argument 24 as launched. -/
abbrev a24 : FVec Ideal S8 .f32 := m ((c.tc : Thread nD τ).loc main_arg24)

/-- The input rows are a reshape of argument 0. -/
theorem v18_eq : V1 m ρ c main_v18 = (shapeCast S38400x16 (a0 m c) shapeCasts_S16x200x192_S38400x16 : FVec Ideal S38400x16 .f32) := by
  unfold V1 W1 hostOps0
  after_results
  rfl

/-- The projection bias as a row. -/
theorem v19_eq : V1 m ρ c main_v19 = (shapeCast S1x256 (a3 m c) shapeCasts_S256_S1x256 : FVec Ideal S1x256 .f32) := by
  unfold V1 W1 hostOps0
  after_results
  rfl

/-- The scale as a row. -/
theorem v20_eq : V1 m ρ c main_v20 = (shapeCast S1x256 (a4 m c) shapeCasts_S256_S1x256 : FVec Ideal S1x256 .f32) := by
  unfold V1 W1 hostOps0
  after_results
  rfl

/-- The shift as a row. -/
theorem v21_eq : V1 m ρ c main_v21 = (shapeCast S1x256 (a5 m c) shapeCasts_S256_S1x256 : FVec Ideal S1x256 .f32) := by
  unfold V1 W1 hostOps0
  after_results
  rfl

/-- The source score weights: both layers' heads side by side. -/
theorem v16_eq : V1 m ρ c main_v16 = (truncf .bf16 (concatenate S256x16 1
      [⟨S256x8, transpose S256x8 [1, 0] (Host.dotGeneral dot_S8x64_S8x256x64_S8x256_1_2_n_1_0_0 none (a7 m c) (a6 m c)) transposes_S8x256_S256x8_1_0⟩,
       ⟨S256x8, transpose S256x8 [1, 0] (Host.dotGeneral dot_S8x64_S8x256x64_S8x256_1_2_n_1_0_0 none (a10 m c) (a9 m c)) transposes_S8x256_S256x8_1_0⟩]
      concatenates_S256x8_S256x8_S256x16_d1) bitsLt_bf16_f32 : FVec Ideal S256x16 .bf16) := by
  unfold V1 W1 hostOps0
  after_results

/-- The target score weights: both layers' heads side by side. -/
theorem v17_eq : V1 m ρ c main_v17 = (truncf .bf16 (concatenate S256x16 1
      [⟨S256x8, transpose S256x8 [1, 0] (Host.dotGeneral dot_S8x64_S8x256x64_S8x256_1_2_n_1_0_0 none (a8 m c) (a6 m c)) transposes_S8x256_S256x8_1_0⟩,
       ⟨S256x8, transpose S256x8 [1, 0] (Host.dotGeneral dot_S8x64_S8x256x64_S8x256_1_2_n_1_0_0 none (a11 m c) (a9 m c)) transposes_S8x256_S256x8_1_0⟩]
      concatenates_S256x8_S256x8_S256x16_d1) bitsLt_bf16_f32 : FVec Ideal S256x16 .bf16) := by
  unfold V1 W1 hostOps0
  after_results

/-- The attention projections: both layers' heads side by side. -/
theorem v15_eq : V1 m ρ c main_v15 = (truncf .bf16 (concatenate S256x1024 1
      [⟨S256x512, shapeCast S256x512 (transpose S256x8x64 [1, 0, 2] (a6 m c) transposes_S8x256x64_S256x8x64_1_0_2) shapeCasts_S256x8x64_S256x512⟩,
       ⟨S256x512, shapeCast S256x512 (transpose S256x8x64 [1, 0, 2] (a9 m c) transposes_S8x256x64_S256x8x64_1_0_2) shapeCasts_S256x8x64_S256x512⟩]
      concatenates_S256x512_S256x512_S256x1024_d1) bitsLt_bf16_f32 : FVec Ideal S256x1024 .bf16) := by
  unfold V1 W1 hostOps0
  after_results
  rfl

/-- A row of inputs: row `r` is item `i` of position `s` of batch entry `b`. -/
theorem v18_at (b : Fin 16) (s : Fin 200) (i : Fin 12) (k : Fin 16) (r : Fin 38400) (hr : r.val = (b.val * 200 + s.val) * 12 + i.val) :
    (show FVec Ideal S38400x16 .f32 from V1 m ρ c main_v18) (ix2 r k) = a0 m c (ix3 b s ⟨i.val * 16 + k.val, by omega⟩) := by
  rw [v18_eq]
  pointwise [hr]
  congr 1
  refine congr (congr (congrArg ix3 (Fin.ext ?_)) (Fin.ext ?_)) (Fin.ext ?_) <;> dsimp only <;> omega

/-- The projection bias at one element. -/
theorem v19_at (f : Fin 256) : (show FVec Ideal S1x256 .f32 from V1 m ρ c main_v19) (ix2 0 f) = a3 m c (ix1 f) := by
  rw [v19_eq]
  pointwise []

/-- The scale at one element. -/
theorem v20_at (f : Fin 256) : (show FVec Ideal S1x256 .f32 from V1 m ρ c main_v20) (ix2 0 f) = a4 m c (ix1 f) := by
  rw [v20_eq]
  pointwise []

/-- The shift at one element. -/
theorem v21_at (f : Fin 256) : (show FVec Ideal S1x256 .f32 from V1 m ρ c main_v21) (ix2 0 f) = a5 m c (ix1 f) := by
  rw [v21_eq]
  pointwise []

/-- The projection's columns of the first eight heads. -/
theorem v15_lo (f : Fin 256) (h : Fin 8) (o : Fin 64) :
    (show FVec Ideal S256x1024 .bf16 from V1 m ρ c main_v15) (ix2 f ⟨h.val * 64 + o.val, by omega⟩) = a6 m c (ix3 h f o) := by
  rw [v15_eq]
  pointwise []
  exact dif_pos (by omega)

/-- The projection's columns of the last eight heads. -/
theorem v15_hi (f : Fin 256) (h : Fin 8) (o : Fin 64) :
    (show FVec Ideal S256x1024 .bf16 from V1 m ρ c main_v15) (ix2 f ⟨512 + (h.val * 64 + o.val), by omega⟩) = a9 m c (ix3 h f o) := by
  rw [v15_eq]
  pointwise []

/-- The source score weight of one of the first eight heads. -/
theorem v16_lo (f : Fin 256) (h : Fin 8) :
    (show FVec Ideal S256x16 .bf16 from V1 m ρ c main_v16) (ix2 f ⟨h.val, by omega⟩) = ∑ o, a7 m c (ix2 h o) * a6 m c (ix3 h f o) := by
  rw [v16_eq]
  pointwise []

/-- The source score weight of one of the last eight heads. -/
theorem v16_hi (f : Fin 256) (h : Fin 8) :
    (show FVec Ideal S256x16 .bf16 from V1 m ρ c main_v16) (ix2 f ⟨8 + h.val, by omega⟩) = ∑ o, a10 m c (ix2 h o) * a9 m c (ix3 h f o) := by
  rw [v16_eq]
  pointwise []

/-- The target score weight of one of the first eight heads. -/
theorem v17_lo (f : Fin 256) (h : Fin 8) :
    (show FVec Ideal S256x16 .bf16 from V1 m ρ c main_v17) (ix2 f ⟨h.val, by omega⟩) = ∑ o, a8 m c (ix2 h o) * a6 m c (ix3 h f o) := by
  rw [v17_eq]
  pointwise []

/-- The target score weight of one of the last eight heads. -/
theorem v17_hi (f : Fin 256) (h : Fin 8) :
    (show FVec Ideal S256x16 .bf16 from V1 m ρ c main_v17) (ix2 f ⟨8 + h.val, by omega⟩) = ∑ o, a11 m c (ix2 h o) * a9 m c (ix3 h f o) := by
  rw [v17_eq]
  pointwise []

/-- The first region reads argument 2 as launched. -/
theorem arg2_eq : V1 m ρ c main_arg2 = a2 m c := W1_args m ρ c main_arg2 (by decide)

/-! ## The second region's operands -/

/-- The second region reads argument 1 as launched. -/
theorem arg1_eq : V3 m ρ c main_arg1 = a1 m c := W3_args m ρ c main_arg1 (by decide)
/-- The second region reads argument 12 as launched. -/
theorem arg12_eq : V3 m ρ c main_arg12 = a12 m c := W3_args m ρ c main_arg12 (by decide)
/-- The second region reads argument 13 as launched. -/
theorem arg13_eq : V3 m ρ c main_arg13 = a13 m c := W3_args m ρ c main_arg13 (by decide)
/-- The second region reads argument 15 as launched. -/
theorem arg15_eq : V3 m ρ c main_arg15 = a15 m c := W3_args m ρ c main_arg15 (by decide)
/-- The second region reads argument 16 as launched. -/
theorem arg16_eq : V3 m ρ c main_arg16 = a16 m c := W3_args m ρ c main_arg16 (by decide)
/-- The second region reads argument 18 as launched. -/
theorem arg18_eq : V3 m ρ c main_arg18 = a18 m c := W3_args m ρ c main_arg18 (by decide)
/-- The second region reads argument 19 as launched. -/
theorem arg19_eq : V3 m ρ c main_arg19 = a19 m c := W3_args m ρ c main_arg19 (by decide)
/-- The second region reads argument 23 as launched. -/
theorem arg23_eq : V3 m ρ c main_arg23 = a23 m c := W3_args m ρ c main_arg23 (by decide)

/-- The first region's output array. -/
def nodes : FVec Ideal S3200x1024 .f32 :=
  Node.arr (V1 m ρ c main_v18) (V1 m ρ c main_arg2) (V1 m ρ c main_v19) (V1 m ρ c main_v20) (V1 m ρ c main_v21) (V1 m ρ c main_v15)
    (V1 m ρ c main_v16) (V1 m ρ c main_v17)

/-- The node rows of a batch entry are 200 rows of the first region's output. -/
theorem v23_at (b : Fin 16) (n : Fin 200) (k : Fin 1024) : (show FVec Ideal S16x200x1024 .f32 from V3 m ρ c main_v23) (ix3 b n k)
    = nodes m ρ c (ix2 ⟨b.val * 200 + n.val, by omega⟩ k) := by
  have e : V3 m ρ c main_v23 = (shapeCast S16x200x1024 (nodes m ρ c) shapeCasts_S3200x1024_S16x200x1024 : FVec Ideal S16x200x1024 .f32) := by
    unfold V3 W3 hostOps1
    after_results
    unfold nodes
    rw [← Node.final (V1 m ρ) c, ← W2_arr m ρ c 8]
    rfl
  rw [e]
  pointwise []

/-- The aggregation's bias at one element. -/
theorem v24_at (o : Fin 256) : (show FVec Ideal S1x256 .f32 from V3 m ρ c main_v24) (ix2 0 o) = a14 m c (ix1 o) := by
  have e : V3 m ρ c main_v24 = (shapeCast S1x256 (a14 m c) shapeCasts_S256_S1x256 : FVec Ideal S1x256 .f32) := by
    unfold V3 W3 hostOps1
    after_results
    rw [W2_args m ρ c main_arg14 (by decide)]
    try rfl
  rw [e]
  pointwise []

/-- The forward unit's biases at one element. -/
theorem v25_at (g : Fin 3) (o : Fin 128) : (show FVec Ideal S3x1x128 .f32 from V3 m ρ c main_v25) (ix3 g 0 o) = a17 m c (ix2 g o) := by
  have e : V3 m ρ c main_v25 = (shapeCast S3x1x128 (a17 m c) shapeCasts_S3x128_S3x1x128 : FVec Ideal S3x1x128 .f32) := by
    unfold V3 W3 hostOps1
    after_results
    rw [W2_args m ρ c main_arg17 (by decide)]
    try rfl
  rw [e]
  pointwise []

/-- The backward unit's biases at one element. -/
theorem v26_at (g : Fin 3) (o : Fin 128) : (show FVec Ideal S3x1x128 .f32 from V3 m ρ c main_v26) (ix3 g 0 o) = a20 m c (ix2 g o) := by
  have e : V3 m ρ c main_v26 = (shapeCast S3x1x128 (a20 m c) shapeCasts_S3x128_S3x1x128 : FVec Ideal S3x1x128 .f32) := by
    unfold V3 W3 hostOps1
    after_results
    rw [W2_args m ρ c main_arg20 (by decide)]
    try rfl
  rw [e]
  pointwise []

/-- The head's first matrix: the rows of the node part. -/
theorem v27_at (k : Fin 1024) (o : Fin 256) : (show FVec Ideal S1024x256 .f32 from V3 m ρ c main_v27) (ix2 k o) = a21 m c (ix2 ⟨k.val, by omega⟩ o) := by
  have e : V3 m ρ c main_v27 = (extractStridedSlice S1024x256 ![0, 0] (a21 m c) slices_S1280x256_S1024x256_0_0 : FVec Ideal S1024x256 .f32) := by
    unfold V3 W3 hostOps1
    after_results
    rw [W2_args m ρ c main_arg21 (by decide)]
    try rfl
  rw [e]
  pointwise []

/-- The head's first matrix: the rows of the forward pass. -/
theorem v28_at (k : Fin 128) (o : Fin 256) : (show FVec Ideal S128x256 .f32 from V3 m ρ c main_v28) (ix2 k o) = a21 m c (ix2 ⟨1024 + k.val, by omega⟩ o) := by
  have e : V3 m ρ c main_v28 = (extractStridedSlice S128x256 ![1024, 0] (a21 m c) slices_S1280x256_S128x256_1024_0 : FVec Ideal S128x256 .f32) := by
    unfold V3 W3 hostOps1
    after_results
    rw [W2_args m ρ c main_arg21 (by decide)]
    try rfl
  rw [e]
  pointwise []

/-- The head's first matrix: the rows of the backward pass. -/
theorem v29_at (k : Fin 128) (o : Fin 256) : (show FVec Ideal S128x256 .f32 from V3 m ρ c main_v29) (ix2 k o) = a21 m c (ix2 ⟨1152 + k.val, by omega⟩ o) := by
  have e : V3 m ρ c main_v29 = (extractStridedSlice S128x256 ![1152, 0] (a21 m c) slices_S1280x256_S128x256_1152_0 : FVec Ideal S128x256 .f32) := by
    unfold V3 W3 hostOps1
    after_results
    rw [W2_args m ρ c main_arg21 (by decide)]
    try rfl
  rw [e]
  pointwise []

/-- The head's first bias at one element. -/
theorem v30_at (o : Fin 256) : (show FVec Ideal S1x256 .f32 from V3 m ρ c main_v30) (ix2 0 o) = a22 m c (ix1 o) := by
  have e : V3 m ρ c main_v30 = (shapeCast S1x256 (a22 m c) shapeCasts_S256_S1x256 : FVec Ideal S1x256 .f32) := by
    unfold V3 W3 hostOps1
    after_results
    rw [W2_args m ρ c main_arg22 (by decide)]
    try rfl
  rw [e]
  pointwise []

/-- The head's last bias at one element. -/
theorem v31_at (o : Fin 8) : (show FVec Ideal S1x8 .f32 from V3 m ρ c main_v31) (ix2 0 o) = a24 m c (ix1 o) := by
  have e : V3 m ρ c main_v31 = (shapeCast S1x8 (a24 m c) shapeCasts_S8_S1x8 : FVec Ideal S1x8 .f32) := by
    unfold V3 W3 hostOps1
    after_results
    rw [W2_args m ρ c main_arg24 (by decide)]
    try rfl
  rw [e]
  pointwise []

end Cert.KernelIdeal.Host

end
end
-- ==== Proof.NodeEq.lean ====
/- The equation of the node stage for ONE node: at real inputs the kernel's order and the reference's order of the
   arithmetic give one number. The normalised layer: dividing by the square root is multiplying by its reciprocal.
   The attention: subtracting a row's maximum changes numerator and denominator by one factor; the source and
   destination scores may be taken against the weights first; dividing before or after the sum over the items is the
   same. All of it happens among the reals, where sums and products distribute. -/
module

public import proofs.«01_k».proof.Proof.NodeSpec
public import Mathlib.Analysis.SpecialFunctions.Exp
public import Mathlib.Algebra.BigOperators.Field

@[expose] public section

noncomputable section

namespace Cert.Spec

open Idealize.ShloMosaic

/-- The reference's attention score of item `j` for item `i`: the projections against the two vectors of the head. -/
def scoreR (s : EReal) (h : Fin 12 → Fin 256 → EReal) (w : Fin 256 → Fin 64 → EReal) (as ad : Fin 64 → EReal)
    (i j : Fin 12) : EReal :=
  leaky s (∑ o, as o * proj h (fun f => w f o) i + ∑ o, ad o * proj h (fun f => w f o) j)

/-- The reference's attention weight, over a number `M i` subtracted from row `i`. -/
def attR (s : EReal) (h : Fin 12 → Fin 256 → EReal) (w : Fin 256 → Fin 64 → EReal) (as ad : Fin 64 → EReal)
    (M : Fin 12 → EReal) (i j : Fin 12) : EReal :=
  Ideal.div (Ideal.exp (scoreR s h w as ad i j - M i)) (∑ j, Ideal.exp (scoreR s h w as ad i j - M i))

/-- The exponential linear unit, in the reference's spelling. -/
def eluR (x : EReal) : EReal := if 0 < x then x else 1 * (Ideal.exp (if 0 < x then 0 else x) - 1)

/-- The reference's output of a node at column `o` of one head. -/
def nodeR (s : EReal) (h : Fin 12 → Fin 256 → EReal) (w : Fin 256 → Fin 64 → EReal) (as ad : Fin 64 → EReal)
    (M : Fin 12 → EReal) (o : Fin 64) : EReal :=
  Ideal.div (∑ i, eluR (∑ j, proj h (fun f => w f o) j * attR s h w as ad M i j)) c12

/-! ## Extended reals that are real numbers -/

/-- An extended real that is a real number. -/
def IsReal (x : EReal) : Prop := ∃ r : ℝ, x = (r : EReal)

/-- A finite sum of real numbers is the real sum. -/
theorem coe_sum {ι : Type} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

/-- A number that is neither infinity is real. -/
theorem isReal_of_abs_lt {x : EReal} (h : max x (-x) < ⊤) : IsReal x := by
  induction x with
  | bot => simp at h
  | top => simp at h
  | coe r => exact ⟨r, rfl⟩

/-- A sum of two reals is real. -/
theorem IsReal.add {x y : EReal} : IsReal x → IsReal y → IsReal (x + y) := by
  rintro ⟨a, rfl⟩ ⟨b, rfl⟩; exact ⟨a + b, (EReal.coe_add a b).symm⟩

/-- A product of two reals is real. -/
theorem IsReal.mul {x y : EReal} : IsReal x → IsReal y → IsReal (x * y) := by
  rintro ⟨a, rfl⟩ ⟨b, rfl⟩; exact ⟨a * b, (EReal.coe_mul a b).symm⟩

/-- A finite sum of reals is real. -/
theorem IsReal.sum {ι : Type} [Fintype ι] {f : ι → EReal} (h : ∀ i, IsReal (f i)) : IsReal (∑ i, f i) := by
  choose g hg using h
  exact ⟨∑ i, g i, by rw [← coe_sum]; exact Finset.sum_congr rfl fun i _ => hg i⟩

/-- The larger of two real numbers is the real maximum. -/
theorem coe_max (a b : ℝ) : max (a : EReal) (b : EReal) = ((max a b : ℝ) : EReal) :=
  (EReal.coe_strictMono.monotone.map_max).symm

/-- The rectifier of a real number. -/
theorem coe_max_zero (a : ℝ) : max (a : EReal) 0 = ((max a 0 : ℝ) : EReal) := by
  rw [← EReal.coe_zero]; exact coe_max a 0

/-! ## The three literals -/

/-- The literal 256. -/
theorem c256_eq : c256 = ((256 : ℝ) : EReal) := by
  simp [c256, Ideal.ofBits, Ideal.ieee, -EReal.coe_mul]; norm_num

/-- The literal 12. -/
theorem c12_eq : c12 = ((12 : ℝ) : EReal) := by
  simp [c12, Ideal.ofBits, Ideal.ieee, -EReal.coe_mul]; norm_num

/-- The steadying number is a positive real. -/
theorem epsLn_pos : ∃ e : ℝ, 0 < e ∧ epsLn = (e : EReal) := by
  refine ⟨(10995116 : ℝ) * 2 ^ (-40 : ℤ), by positivity, ?_⟩
  simp [epsLn, Ideal.ofBits, Ideal.ieee, -EReal.coe_mul]; try norm_num

/-- Dividing a real by a nonzero real. -/
theorem div_real (a : ℝ) {b : ℝ} (h : b ≠ 0) : Ideal.div (a : EReal) (b : EReal) = ((a / b : ℝ) : EReal) := by
  rw [Ideal.div_coe h, ← EReal.coe_mul, mul_one_div]

/-! ## The normalised layer -/

/-- A row of reals: its mean is a real. -/
theorem mean_real (p : Fin 256 → ℝ) : mean (fun f => (p f : EReal)) = (((∑ f, p f) / 256 : ℝ) : EReal) := by
  rw [mean, coe_sum, c256_eq, div_real _ (by norm_num)]

/-- A row of reals: its variance is a nonnegative real. -/
theorem var_real (p : Fin 256 → ℝ) : ∃ v : ℝ, 0 ≤ v ∧ var (fun f => (p f : EReal)) = (v : EReal) := by
  refine ⟨(∑ f, (p f - (∑ f, p f) / 256) * (p f - (∑ f, p f) / 256)) / 256,
    div_nonneg (Finset.sum_nonneg fun f _ => mul_self_nonneg _) (by norm_num), ?_⟩
  rw [var, mean_real]
  simp only [← EReal.coe_sub, ← EReal.coe_mul]
  rw [coe_sum, c256_eq, div_real _ (by norm_num)]

/-- At real inputs the two orders of the normalised layer agree, and the result is real. -/
theorem norm_eq (p g e : Fin 256 → EReal) (hp : ∀ f, IsReal (p f)) (hg : ∀ f, IsReal (g f)) (he : ∀ f, IsReal (e f))
    (f : Fin 256) : normK p g e f = normR p g e f ∧ IsReal (normR p g e f) := by
  choose p' hp using hp
  choose g' hg using hg
  choose e' he using he
  obtain rfl : p = fun f => (p' f : EReal) := funext hp
  obtain ⟨v, hv, hvar⟩ := var_real p'
  obtain ⟨ε, hε, heps⟩ := epsLn_pos
  have hpos : 0 < v + ε := by positivity
  have hsq : 0 < √(v + ε) := Real.sqrt_pos.mpr hpos
  have e1 : Ideal.sqrt (var (fun f => (p' f : EReal)) + epsLn) = ((√(v + ε) : ℝ) : EReal) := by
    rw [hvar, heps, ← EReal.coe_add, Ideal.sqrt_coe, if_neg (not_lt.mpr hpos.le)]
  have e2 : Ideal.rsqrt (var (fun f => (p' f : EReal)) + epsLn) = (((√(v + ε))⁻¹ : ℝ) : EReal) := by
    rw [hvar, heps, ← EReal.coe_add, Ideal.rsqrt_coe, if_neg (not_lt.mpr hpos.le), if_neg hpos.ne']
  constructor
  · rw [normK, normR, e1, e2, mean_real, ← EReal.coe_sub, div_real _ hsq.ne', ← EReal.coe_mul, ← div_eq_mul_inv]
  · rw [normR, e1, mean_real, ← EReal.coe_sub, div_real _ hsq.ne', hg, he, ← EReal.coe_mul, ← EReal.coe_add, coe_max_zero]
    exact ⟨_, rfl⟩

/-! ## The attention -/

/-- The two spellings of the exponential linear unit agree everywhere. -/
theorem elu_eq (x : EReal) : eluK x = eluR x := by
  unfold eluK eluR
  by_cases h : 0 < x
  · rw [if_pos h, if_pos h]
  · rw [if_neg h, if_neg h, if_neg h, one_mul, min_eq_left (not_lt.mp h)]

/-- The exponential linear unit of a real is real. -/
theorem eluR_real {x : EReal} (hx : IsReal x) : IsReal (eluR x) := by
  obtain ⟨r, rfl⟩ := hx
  unfold eluR
  by_cases h : (0 : EReal) < (r : EReal)
  · rw [if_pos h]; exact ⟨r, rfl⟩
  · rw [if_neg h, if_neg h, one_mul, Ideal.exp_coe, ← EReal.coe_one, ← EReal.coe_sub]; exact ⟨_, rfl⟩

/-- The leaky rectifier of a real is real. -/
theorem leaky_real {s x : EReal} (hs : IsReal s) (hx : IsReal x) : IsReal (leaky s x) := by
  unfold leaky; split
  · exact hx
  · exact hs.mul hx

/-- Taking the projections against a vector first, or the weights against it first, is one sum. -/
theorem proj_assoc (h : Fin 12 → Fin 256 → EReal) (w : Fin 256 → Fin 64 → EReal) (a : Fin 64 → EReal)
    (hh : ∀ i f, IsReal (h i f)) (hw : ∀ f o, IsReal (w f o)) (ha : ∀ o, IsReal (a o)) (i : Fin 12) :
    proj h (fun f => ∑ o, a o * w f o) i = ∑ o, a o * proj h (fun f => w f o) i := by
  choose h' hh using hh
  choose w' hw using hw
  choose a' ha using ha
  simp only [proj, hh, hw, ha, ← EReal.coe_mul, coe_sum]
  congr 1
  simp only [Finset.mul_sum]
  rw [Finset.sum_comm]
  exact Finset.sum_congr rfl fun o _ => Finset.sum_congr rfl fun f _ => by ring

/-- A projection of reals is real. -/
theorem proj_real {h : Fin 12 → Fin 256 → EReal} {w : Fin 256 → EReal} (hh : ∀ i f, IsReal (h i f))
    (hw : ∀ f, IsReal (w f)) (i : Fin 12) : IsReal (proj h w i) :=
  IsReal.sum fun f => (hh i f).mul (hw f)

/-- The weighted mean of reals `p` under the exponentials of reals `S`: shifting every exponent by one real and
    dividing inside the sum changes nothing. -/
theorem softmax_eq (S p : Fin 12 → ℝ) (m : ℝ) :
    (∑ j, Ideal.exp (S j : EReal) * (p j : EReal)) * Ideal.div 1 (∑ j, Ideal.exp (S j : EReal))
        = ∑ j, (p j : EReal) * Ideal.div (Ideal.exp ((S j : EReal) - (m : EReal))) (∑ j, Ideal.exp ((S j : EReal) - (m : EReal)))
      ∧ IsReal (∑ j, (p j : EReal) * Ideal.div (Ideal.exp ((S j : EReal) - (m : EReal)))
          (∑ j, Ideal.exp ((S j : EReal) - (m : EReal)))) := by
  have h1 : 0 < ∑ j, Real.exp (S j) := Finset.sum_pos (fun j _ => Real.exp_pos _) Finset.univ_nonempty
  have h2 : 0 < ∑ j, Real.exp (S j - m) := Finset.sum_pos (fun j _ => Real.exp_pos _) Finset.univ_nonempty
  simp only [← EReal.coe_sub, Ideal.exp_coe, ← EReal.coe_mul, coe_sum, ← EReal.coe_one]
  rw [div_real _ h1.ne']
  simp only [div_real _ h2.ne', ← EReal.coe_mul, coe_sum]
  refine ⟨?_, _, rfl⟩
  congr 1
  have h3 : ∀ j, Real.exp (S j - m) = Real.exp (S j) / Real.exp m := fun j => Real.exp_sub _ _
  simp only [h3, ← Finset.sum_div]
  rw [Finset.sum_mul]
  refine Finset.sum_congr rfl fun j _ => ?_
  have := (Real.exp_pos m).ne'
  have := h1.ne'
  field_simp

/-- THE NODE STAGE: at real inputs, with any real numbers subtracted in the reference's softmax, the kernel's value of
    a node at a column of a head is the reference's, and it is real. The kernel's two score columns are the head's
    weights against the head's two vectors. -/
theorem node_eq (s : EReal) (h : Fin 12 → Fin 256 → EReal) (w : Fin 256 → Fin 64 → EReal) (as ad : Fin 64 → EReal)
    (M : Fin 12 → EReal) (hs : IsReal s) (hh : ∀ i f, IsReal (h i f)) (hw : ∀ f o, IsReal (w f o))
    (has : ∀ o, IsReal (as o)) (had : ∀ o, IsReal (ad o)) (hM : ∀ i, IsReal (M i)) (o : Fin 64) :
    nodeK s h (fun f => ∑ o, as o * w f o) (fun f => ∑ o, ad o * w f o) (fun f => w f o) = nodeR s h w as ad M o
      ∧ IsReal (nodeR s h w as ad M o) := by
  have hS : ∀ i j, IsReal (scoreR s h w as ad i j) := fun i j =>
    leaky_real hs ((IsReal.sum fun o => (has o).mul (proj_real hh (fun f => hw f o) i)).add
      (IsReal.sum fun o => (had o).mul (proj_real hh (fun f => hw f o) j)))
  have hp : ∀ j, IsReal (proj h (fun f => w f o) j) := fun j => proj_real hh (fun f => hw f o) j
  have hw' : ∀ i j, weight s h (fun f => ∑ o, as o * w f o) (fun f => ∑ o, ad o * w f o) i j
      = Ideal.exp (scoreR s h w as ad i j) := fun i j => by
    rw [weight, proj_assoc h w as hh hw has, proj_assoc h w ad hh hw had, scoreR]
  choose S hS using hS
  choose p hp using hp
  choose m hM using hM
  have key : ∀ i, (∑ j, weight s h (fun f => ∑ o, as o * w f o) (fun f => ∑ o, ad o * w f o) i j * proj h (fun f => w f o) j)
        * Ideal.div 1 (∑ j, weight s h (fun f => ∑ o, as o * w f o) (fun f => ∑ o, ad o * w f o) i j)
      = ∑ j, proj h (fun f => w f o) j * attR s h w as ad M i j
      ∧ IsReal (∑ j, proj h (fun f => w f o) j * attR s h w as ad M i j) := fun i => by
    simp only [hw', attR, hS, hp, hM]
    exact softmax_eq (S i) p (m i)
  constructor
  · rw [nodeK, nodeR]
    congr 1
    exact Finset.sum_congr rfl fun i _ => by rw [(key i).1, elu_eq]
  · obtain ⟨t, ht⟩ := IsReal.sum fun i => eluR_real (key i).2
    rw [nodeR, ht, c12_eq, div_real _ (by norm_num)]
    exact ⟨_, rfl⟩

end Cert.Spec

end
end
-- ==== Proof.NetSpec.lean ====
/- The arithmetic of the second stage for ONE row of a graph, over the extended reals: the neighbourhood aggregation,
   one step of the gated recurrent unit, its two passes over the four aggregations, and the output head. -/
module

public import Idealize.ShloMosaic.PureOps.Ideal

@[expose] public section

noncomputable section

namespace Cert.Spec

open Idealize.ShloMosaic

/-- The float 1e-6 added to a row's degree. -/
def epsAdj : EReal := Ideal.ofBits .f32 0x358637BD#32

/-- One row of one aggregation in the kernel's order: the neighbours' sum times the reciprocal of the degree, through
    the neighbour weights, plus the row's own term with the bias; clipped at zero. `a` is the row of the adjacency,
    `d` the node rows, `own` the row itself. -/
def aggK (a : Fin 200 → EReal) (d : Fin 200 → Fin 1024 → EReal) (own : Fin 1024 → EReal)
    (wn ws : Fin 1024 → Fin 256 → EReal) (b : Fin 256 → EReal) (o : Fin 256) : EReal :=
  max (∑ k, (∑ n, a n * d n k) * Ideal.div 1 (∑ n, a n + epsAdj) * wn k o + (∑ k, own k * ws k o + b o)) 0

/-- One row of one aggregation in the reference's order: every adjacency entry is divided by the degree first. -/
def aggR (a : Fin 200 → EReal) (d : Fin 200 → Fin 1024 → EReal) (own : Fin 1024 → EReal)
    (wn ws : Fin 1024 → Fin 256 → EReal) (b : Fin 256 → EReal) (o : Fin 256) : EReal :=
  max (∑ k, (∑ n, d n k * Ideal.div (a n) (∑ n, a n + epsAdj)) * wn k o + ∑ k, own k * ws k o + b o) 0

/-- A gate's argument: the input's and the state's projections and the bias. -/
def gate (w : Fin 256 → Fin 128 → EReal) (u : Fin 128 → Fin 128 → EReal) (b : Fin 128 → EReal)
    (x : Fin 256 → EReal) (h : Fin 128 → EReal) (o : Fin 128) : EReal :=
  ∑ k, x k * w k o + ∑ k, h k * u k o + b o

/-- One step of the gated recurrent unit on one row. -/
def gru (w : Fin 3 → Fin 256 → Fin 128 → EReal) (u : Fin 3 → Fin 128 → Fin 128 → EReal) (b : Fin 3 → Fin 128 → EReal)
    (x : Fin 256 → EReal) (h : Fin 128 → EReal) (o : Fin 128) : EReal :=
  (1 - Ideal.logistic (gate (w 0) (u 0) (b 0) x h o))
      * Ideal.tanh (gate (w 2) (u 2) (b 2) x (fun k => Ideal.logistic (gate (w 1) (u 1) (b 1) x h k) * h k) o)
    + Ideal.logistic (gate (w 0) (u 0) (b 0) x h o) * h o

/-- Four steps from the zero state, over the rows `x0`, `x1`, `x2`, `x3` in this order. -/
def gru4 (w : Fin 3 → Fin 256 → Fin 128 → EReal) (u : Fin 3 → Fin 128 → Fin 128 → EReal) (b : Fin 3 → Fin 128 → EReal)
    (x0 x1 x2 x3 : Fin 256 → EReal) : Fin 128 → EReal :=
  gru w u b x3 (gru w u b x2 (gru w u b x1 (gru w u b x0 (fun _ => 0))))

/-- The output head on one row: the three parts of the joint row through their weights, clipped, and projected. -/
def head (wd : Fin 1024 → Fin 256 → EReal) (wf wb : Fin 128 → Fin 256 → EReal) (b1 : Fin 256 → EReal)
    (w2 : Fin 256 → Fin 8 → EReal) (b2 : Fin 8 → EReal) (d : Fin 1024 → EReal) (hf hb : Fin 128 → EReal) (q : Fin 8) : EReal :=
  ∑ o, max (∑ k, d k * wd k o + ∑ k, hf k * wf k o + ∑ k, hb k * wb k o + b1 o) 0 * w2 o q + b2 q

/-- The whole second stage on row `i` of one batch entry, over the aggregations' function `agg` (the kernel's or the
    reference's), the adjacencies `a`, the node rows `d` and the weights. -/
def net (agg : (Fin 200 → EReal) → (Fin 200 → Fin 1024 → EReal) → (Fin 1024 → EReal) → (Fin 1024 → Fin 256 → EReal) →
      (Fin 1024 → Fin 256 → EReal) → (Fin 256 → EReal) → Fin 256 → EReal)
    (a : Fin 4 → Fin 200 → Fin 200 → EReal) (wn ws : Fin 1024 → Fin 256 → EReal) (b : Fin 256 → EReal)
    (wf : Fin 3 → Fin 256 → Fin 128 → EReal) (uf : Fin 3 → Fin 128 → Fin 128 → EReal) (bf : Fin 3 → Fin 128 → EReal)
    (wb : Fin 3 → Fin 256 → Fin 128 → EReal) (ub : Fin 3 → Fin 128 → Fin 128 → EReal) (bb : Fin 3 → Fin 128 → EReal)
    (w1d : Fin 1024 → Fin 256 → EReal) (w1f w1b : Fin 128 → Fin 256 → EReal) (b1 : Fin 256 → EReal)
    (w2 : Fin 256 → Fin 8 → EReal) (b2 : Fin 8 → EReal) (d : Fin 200 → Fin 1024 → EReal) (i : Fin 200) (q : Fin 8) : EReal :=
  head w1d w1f w1b b1 w2 b2 (d i)
    (gru4 wf uf bf (agg (a 0 i) d (d i) wn ws b) (agg (a 1 i) d (d i) wn ws b) (agg (a 2 i) d (d i) wn ws b) (agg (a 3 i) d (d i) wn ws b))
    (gru4 wb ub bb (agg (a 3 i) d (d i) wn ws b) (agg (a 2 i) d (d i) wn ws b) (agg (a 1 i) d (d i) wn ws b) (agg (a 0 i) d (d i) wn ws b)) q

end Cert.Spec

end
end
-- ==== Proof.NetEq.lean ====
/- The arithmetic of the second stage over real numbers: the kernel's aggregation is the reference's. Also, the largest of
   a row of real numbers is a real number. -/
module

public import proofs.«01_k».proof.Proof.NodeEq
public import proofs.«01_k».proof.Proof.NetSpec

@[expose] public section

noncomputable section

namespace Cert.Spec

open Idealize.ShloMosaic

/-- The float 1e-6 is a real number. -/
theorem epsAdj_real : IsReal epsAdj := by
  refine ⟨(8796093 : ℝ) * 2 ^ (-43 : ℤ), ?_⟩
  simp [epsAdj, Ideal.ofBits, Ideal.ieee, -EReal.coe_mul]; try norm_num

/-- The neighbours' sum times the reciprocal of the degree is the sum of the neighbours against the divided entries. -/
theorem avg_eq (a d : Fin 200 → EReal) (D : EReal) (ha : ∀ n, IsReal (a n)) (hd : ∀ n, IsReal (d n)) (hD : IsReal D) (h0 : D ≠ 0) :
    (∑ n, a n * d n) * Ideal.div 1 D = ∑ n, d n * Ideal.div (a n) D := by
  choose a' ha using ha
  choose d' hd using hd
  obtain ⟨D', rfl⟩ := hD
  have h0 : D' ≠ 0 := fun h => h0 (by rw [h, EReal.coe_zero])
  simp only [ha, hd, ← EReal.coe_one, div_real _ h0, ← EReal.coe_mul, coe_sum]
  congr 1
  rw [Finset.sum_mul]
  exact Finset.sum_congr rfl fun n _ => by ring

/-- The two orders of one aggregation agree, over a real adjacency row of nonzero degree and real node rows. -/
theorem agg_eq (a : Fin 200 → EReal) (d : Fin 200 → Fin 1024 → EReal) (own : Fin 1024 → EReal)
    (wn ws : Fin 1024 → Fin 256 → EReal) (b : Fin 256 → EReal) (ha : ∀ n, IsReal (a n)) (hd : ∀ n k, IsReal (d n k))
    (h0 : ∑ n, a n + epsAdj ≠ 0) : aggK a d own wn ws b = aggR a d own wn ws b := by
  funext o
  unfold aggK aggR
  rw [← add_assoc]
  simp only [fun k => avg_eq a (fun n => d n k) _ ha (fun n => hd n k) ((IsReal.sum ha).add epsAdj_real) h0]

/-- The second stage in the kernel's order is the one in the reference's order, over real adjacencies of nonzero degree
    and real node rows. -/
theorem net_eq (a : Fin 4 → Fin 200 → Fin 200 → EReal) (wn ws : Fin 1024 → Fin 256 → EReal) (b : Fin 256 → EReal)
    (wf : Fin 3 → Fin 256 → Fin 128 → EReal) (uf : Fin 3 → Fin 128 → Fin 128 → EReal) (bf : Fin 3 → Fin 128 → EReal)
    (wb : Fin 3 → Fin 256 → Fin 128 → EReal) (ub : Fin 3 → Fin 128 → Fin 128 → EReal) (bb : Fin 3 → Fin 128 → EReal)
    (w1d : Fin 1024 → Fin 256 → EReal) (w1f w1b : Fin 128 → Fin 256 → EReal) (b1 : Fin 256 → EReal)
    (w2 : Fin 256 → Fin 8 → EReal) (b2 : Fin 8 → EReal) (d : Fin 200 → Fin 1024 → EReal) (i : Fin 200) (q : Fin 8)
    (ha : ∀ l i n, IsReal (a l i n)) (hd : ∀ n k, IsReal (d n k)) (h0 : ∀ l i, ∑ n, a l i n + epsAdj ≠ 0) :
    net aggK a wn ws b wf uf bf wb ub bb w1d w1f w1b b1 w2 b2 d i q = net aggR a wn ws b wf uf bf wb ub bb w1d w1f w1b b1 w2 b2 d i q := by
  unfold net
  simp only [fun l => agg_eq (a l i) d (d i) wn ws b (ha l i) hd (h0 l i)]

/-- The least float is the least extended real. -/
theorem bot_eq : Ideal.ofBits .f32 0xFF800000#32 = (⊥ : EReal) := by
  simp [Ideal.ofBits, Ideal.ieee]

/-- The largest of a row of twelve reals, folded from the least extended real, is a real. -/
theorem fold_real (f : Fin 12 → EReal) (hf : ∀ j, IsReal (f j)) :
    IsReal (max (Ideal.ofBits .f32 0xFF800000#32) (Finset.univ.fold max (Ideal.ofBits .f32 0xFF800000#32) f)) := by
  classical
  rw [bot_eq, bot_sup_eq]
  have key : ∀ s : Finset (Fin 12), s = ∅ ∨ IsReal (s.fold max (⊥ : EReal) f) := by
    intro s
    induction s using Finset.induction_on with
    | empty => exact Or.inl rfl
    | insert a s ha ih =>
      refine Or.inr ?_
      obtain ⟨r, hr⟩ := hf a
      rw [Finset.fold_insert ha, hr]
      rcases ih with rfl | ⟨t, ht⟩
      · exact ⟨r, by rw [Finset.fold_empty, sup_bot_eq]⟩
      · exact ⟨max r t, by rw [ht, coe_max]⟩
  exact (key Finset.univ).resolve_left Finset.univ_nonempty.ne_empty

end Cert.Spec

end
end
-- ==== Proof.Finite.lean ====
/- What the precondition says: the inputs of the first stage, its weights and the adjacencies are real numbers, and no
   row's degree with the added 1e-6 is zero. -/
module

public import proofs.«01_k».proof.Proof.Frames
public import proofs.«01_k».proof.Proof.Host
public import proofs.«01_k».proof.Proof.NetEq

@[expose] public section

set_option maxRecDepth 16384

noncomputable section

namespace Cert.Finite

open Idealize.ShloMosaic Idealize.ShloMosaic.TcCoe Idealize.SL.Sem
open Cert.KernelIdeal Cert.KernelIdeal.Host

/-- The greatest float is the greatest extended real. -/
theorem top_eq : Ideal.ofBits .f32 0x7F800000#32 = (⊤ : EReal) := by
  simp [Ideal.ofBits, Ideal.ieee]

/-- An array whose absolute values all compare less than infinity holds real numbers. -/
theorem real_of {s : Shape} (x : FVec Ideal s .f32)
    (hb : Cert.Pre_finite.S_.BroadcastsInDim s (![] : Fin 0 → Fin s.rank))
    (e : cmpf .olt (Host.absf x) (broadcastInDim s ![] hb (constant (F := Ideal) Cert.Pre_finite.S_ .f32 0x7F800000#32)) = fun _ => 1#1)
    (i : s.Idx) : Spec.IsReal (x i) := by
  have h1 : Ideal.cmp .olt (max (x i) (-(x i))) (Ideal.ofBits .f32 0x7F800000#32) = 1#1 := congrFun e i
  rw [top_eq] at h1
  refine Spec.isReal_of_abs_lt ?_
  by_contra hn
  simp [Ideal.cmp, hn] at h1

attribute [local instance] Cert.Frames.preFacts

variable (m : (ℓ : Loc nD τ sig) → Buf (Elt Ideal) ℓ) (c : Dev nD)

/-- Argument 0 is real everywhere, under the precondition. -/
theorem real0 (hpre : Cert.Pre_KernelIdeal_finite m) (i : S16x200x192.Idx) : Spec.IsReal (a0 m c i) :=
  real_of (a0 m c) _ (hpre c).1 i

/-- Argument 1 is real everywhere, under the precondition. -/
theorem real1 (hpre : Cert.Pre_KernelIdeal_finite m) (i : S4x200x200.Idx) : Spec.IsReal (a1 m c i) :=
  real_of (a1 m c) _ (hpre c).2.1 i

/-- Argument 2 is real everywhere, under the precondition. -/
theorem real2 (hpre : Cert.Pre_KernelIdeal_finite m) (i : S16x256.Idx) : Spec.IsReal (a2 m c i) :=
  real_of (a2 m c) _ (hpre c).2.2.1 i

/-- Argument 3 is real everywhere, under the precondition. -/
theorem real3 (hpre : Cert.Pre_KernelIdeal_finite m) (i : S256.Idx) : Spec.IsReal (a3 m c i) :=
  real_of (a3 m c) _ (hpre c).2.2.2.1 i

/-- Argument 4 is real everywhere, under the precondition. -/
theorem real4 (hpre : Cert.Pre_KernelIdeal_finite m) (i : S256.Idx) : Spec.IsReal (a4 m c i) :=
  real_of (a4 m c) _ (hpre c).2.2.2.2.1 i

/-- Argument 5 is real everywhere, under the precondition. -/
theorem real5 (hpre : Cert.Pre_KernelIdeal_finite m) (i : S256.Idx) : Spec.IsReal (a5 m c i) :=
  real_of (a5 m c) _ (hpre c).2.2.2.2.2.1 i

/-- Argument 6 is real everywhere, under the precondition. -/
theorem real6 (hpre : Cert.Pre_KernelIdeal_finite m) (i : S8x256x64.Idx) : Spec.IsReal (a6 m c i) :=
  real_of (a6 m c) _ (hpre c).2.2.2.2.2.2.1 i

/-- Argument 7 is real everywhere, under the precondition. -/
theorem real7 (hpre : Cert.Pre_KernelIdeal_finite m) (i : S8x64.Idx) : Spec.IsReal (a7 m c i) :=
  real_of (a7 m c) _ (hpre c).2.2.2.2.2.2.2.1 i

/-- Argument 8 is real everywhere, under the precondition. -/
theorem real8 (hpre : Cert.Pre_KernelIdeal_finite m) (i : S8x64.Idx) : Spec.IsReal (a8 m c i) :=
  real_of (a8 m c) _ (hpre c).2.2.2.2.2.2.2.2.1 i

/-- Argument 9 is real everywhere, under the precondition. -/
theorem real9 (hpre : Cert.Pre_KernelIdeal_finite m) (i : S8x256x64.Idx) : Spec.IsReal (a9 m c i) :=
  real_of (a9 m c) _ (hpre c).2.2.2.2.2.2.2.2.2.1 i

/-- Argument 10 is real everywhere, under the precondition. -/
theorem real10 (hpre : Cert.Pre_KernelIdeal_finite m) (i : S8x64.Idx) : Spec.IsReal (a10 m c i) :=
  real_of (a10 m c) _ (hpre c).2.2.2.2.2.2.2.2.2.2.1 i

/-- Argument 11 is real everywhere, under the precondition. -/
theorem real11 (hpre : Cert.Pre_KernelIdeal_finite m) (i : S8x64.Idx) : Spec.IsReal (a11 m c i) :=
  real_of (a11 m c) _ (hpre c).2.2.2.2.2.2.2.2.2.2.2.1 i

/-- No row's degree, with the added 1e-6, is zero. -/
theorem degree (hpre : Cert.Pre_KernelIdeal_finite m) (l : Fin 4) (i : Fin 200) : ∑ n, a1 m c (ix3 l i n) + Spec.epsAdj ≠ 0 := by
  have h : cmpf .une (addf (Host.reduceAdd (a1 m c) (constant (F := Ideal) Cert.Pre_finite.S_ .f32 0x00000000#32)
        Cert.Pre_finite.Facts.reducesTo_S4x200x200_S4x200_d2 Cert.Pre_finite.Facts.h_S_)
      (broadcastInDim Cert.Pre_finite.S4x200 ![] Cert.Pre_finite.Facts.bcast_S_S4x200 (constant (F := Ideal) Cert.Pre_finite.S_ .f32 0x358637BD#32)))
      (broadcastInDim Cert.Pre_finite.S4x200 ![] Cert.Pre_finite.Facts.bcast_S_S4x200 (constant (F := Ideal) Cert.Pre_finite.S_ .f32 0x00000000#32))
      = fun _ => 1#1 := (hpre c).2.2.2.2.2.2.2.2.2.2.2.2
  have h1 := congrFun h (ix2 l i)
  have e : addf (Host.reduceAdd (a1 m c) (constant (F := Ideal) Cert.Pre_finite.S_ .f32 0x00000000#32)
        Cert.Pre_finite.Facts.reducesTo_S4x200x200_S4x200_d2 Cert.Pre_finite.Facts.h_S_)
      (broadcastInDim Cert.Pre_finite.S4x200 ![] Cert.Pre_finite.Facts.bcast_S_S4x200 (constant (F := Ideal) Cert.Pre_finite.S_ .f32 0x358637BD#32)) (ix2 l i)
      = ∑ n, a1 m c (ix3 l i n) + Spec.epsAdj := by
    pointwise []
    rfl
  intro h0
  rw [← e] at h0
  have h2 : Ideal.cmp .une (addf (Host.reduceAdd (a1 m c) (constant (F := Ideal) Cert.Pre_finite.S_ .f32 0x00000000#32)
        Cert.Pre_finite.Facts.reducesTo_S4x200x200_S4x200_d2 Cert.Pre_finite.Facts.h_S_)
      (broadcastInDim Cert.Pre_finite.S4x200 ![] Cert.Pre_finite.Facts.bcast_S_S4x200 (constant (F := Ideal) Cert.Pre_finite.S_ .f32 0x358637BD#32)) (ix2 l i))
      (Ideal.ofBits .f32 0x00000000#32) = 1#1 := h1
  rw [h0] at h2
  simp [Ideal.cmp, Ideal.ofBits, Ideal.ieee] at h2

end Cert.Finite

end
end
-- ==== Proof.RefNode.lean ====
/- The reference's first stage, read at one element: the normalised rows, the attention of each head, and the average
   over a node's items. -/
module

public import proofs.«01_k».proof.Proof.Gen.ReferenceIdeal.Read
public import proofs.«01_k».proof.Proof.NodeEq
public import Idealize.ShloMosaic.Lib.Pointwise

@[expose] public section

set_option maxRecDepth 16384

noncomputable section

namespace Cert.ReferenceIdeal.Node

open Idealize.ShloMosaic Idealize.ShloMosaic.TcCoe Idealize.SL.Sem
open Cert.ReferenceIdeal Cert.ReferenceIdeal.Gen Cert.ReferenceIdeal.Read

variable (x0 : FVec Ideal S16x200x192 .f32) (x2 : FVec Ideal S16x256 .f32) (x3 x4 x5 : FVec Ideal S256 .f32)
  (x6 : FVec Ideal S8x256x64 .f32) (x7 x8 : FVec Ideal S8x64 .f32)
  (b : Fin 16) (s : Fin 200)

/-- The projected input row of item `i` of a node. -/
theorem v4_at (i : Fin 12) (f : Fin 256) : val_main_v4 (F := Ideal) x0 x2 x3 (ix4 b s i f)
    = Spec.lin (fun k => x0 (ix3 b s ⟨i.val * 16 + k.val, by omega⟩)) (fun k f => x2 (ix2 k f)) (fun f => x3 (ix1 f)) f := by
  pointwise [val_main_v4, val_main_v3, val_main_v2, val_main_v1, val_main_v0]
  rfl

/-- The row of item `i` of a node, projected, normalised and clipped. -/
def hid (i : Fin 12) (f : Fin 256) : EReal :=
  Spec.normR (Spec.lin (fun k => x0 (ix3 b s ⟨i.val * 16 + k.val, by omega⟩)) (fun k f => x2 (ix2 k f)) (fun f => x3 (ix1 f)))
    (fun f => x4 (ix1 f)) (fun f => x5 (ix1 f)) f

/-- The mean of a projected row. -/
theorem v8_at (i : Fin 12) (z : Fin 1) : val_main_v8 (F := Ideal) x0 x2 x3 (ix4 b s i z)
    = Spec.mean (Spec.lin (fun k => x0 (ix3 b s ⟨i.val * 16 + k.val, by omega⟩)) (fun k f => x2 (ix2 k f)) (fun f => x3 (ix1 f))) := by
  pointwise [val_main_v8, val_main_v7, val_main_cst_0, val_main_v6, val_main_v5, val_main_cst, v4_at]
  rfl

/-- The hidden layer at one element. -/
theorem v29_at (i : Fin 12) (f : Fin 256) : val_main_v29 (F := Ideal) x0 x2 x3 x4 x5 (ix4 b s i f)
    = hid x0 x2 x3 x4 x5 b s i f := by
  pointwise [val_main_v29, val_main_call0_v0, val_main_call0_cst, val_main_v28, val_main_v27, val_main_v26, val_main_v25, val_main_v24, val_main_v23,
    val_main_v22, val_main_v21, val_main_v20, val_main_v19, val_main_v18, val_main_cst_3, val_main_v17, val_main_v16, val_main_v15, val_main_v14,
    val_main_cst_2, val_main_v13, val_main_v12, val_main_cst_1, val_main_v11, val_main_v10, val_main_v9, v8_at, v4_at]
  rfl

/-- A head's projection of one item. -/
theorem v30_at (i : Fin 12) (h : Fin 8) (o : Fin 64) : val_main_v30 (F := Ideal) x0 x2 x3 x4 x5 x6 (ix5 b s i h o)
    = Spec.proj (hid x0 x2 x3 x4 x5 b s) (fun f => x6 (ix3 h f o)) i := by
  pointwise [val_main_v30, v29_at]
  rfl

/-- The reference's leaky slope, the float32 nearest to `0.2`. -/
def slope : EReal := Ideal.ofBits .f32 0x3E4CCCCD#32

/-- The attention score. -/
theorem v40_at (i j : Fin 12) (h : Fin 8) : val_main_v40 (F := Ideal) x0 x2 x3 x4 x5 x6 x7 x8 (ix5 b s i j h)
    = Spec.scoreR slope (hid x0 x2 x3 x4 x5 b s) (fun f o => x6 (ix3 h f o)) (fun o => x7 (ix2 h o)) (fun o => x8 (ix2 h o)) i j := by
  pointwise [val_main_v40, val_main_call1_v1, val_main_call1_v0, val_main_call1_cst, val_main_call1_v2, val_main_cst_4, val_main_call1_v3, val_main_call1_v4,
    val_main_v39, val_main_v38, val_main_v37, val_main_v36, val_main_v35, val_main_v34, val_main_v33, val_main_v32, val_main_v31, v30_at]
  rfl

/-- The number subtracted from a row of scores: the largest of the row. -/
def top (h : Fin 8) (i : Fin 12) : EReal := val_main_v43 (F := Ideal) x0 x2 x3 x4 x5 x6 x7 x8 (ix4 b s i h)

/-- The fold of the largest over a row, at one element. -/
theorem reduce_at (y : FVec Ideal S16x200x12x12x8 .f32) (h : Fin 8) (i : Fin 12) :
    Host.reduce (FloatOps.maximumf (F := Ideal) (φ := .f32)) y (val_main_cst_5 (F := Ideal)) reducesTo_S16x200x12x12x8_S16x200x12x8_d3 h_S_ (ix4 b s i h)
      = Finset.univ.fold max (Ideal.ofBits .f32 0xFF800000#32) fun j : Fin 12 => y (ix5 b s i j h) := by
  pointwise [val_main_cst_5]

/-- The larger of two extended reals. -/
theorem maximumf_eq (x y : EReal) : FloatOps.maximumf (F := Ideal) (φ := .f32) x y = max x y := rfl

/-- The least float at one element. -/
theorem v42_at (h : Fin 8) (i : Fin 12) : val_main_v42 (F := Ideal) (ix4 b s i h) = Ideal.ofBits .f32 0xFF800000#32 := by
  pointwise [val_main_v42, val_main_cst_6]

/-- The largest of a row of scores, as a fold. -/
theorem top_eq (h : Fin 8) (i : Fin 12) : top x0 x2 x3 x4 x5 x6 x7 x8 b s h i
    = max (Ideal.ofBits .f32 0xFF800000#32) (Finset.univ.fold max (Ideal.ofBits .f32 0xFF800000#32) fun j =>
        Spec.scoreR slope (hid x0 x2 x3 x4 x5 b s) (fun f o => x6 (ix3 h f o)) (fun o => x7 (ix2 h o)) (fun o => x8 (ix2 h o)) i j) := by
  rw [top, val_main_v43_apply, v42_at, maximumf_eq, val_main_v41, reduce_at]
  simp only [v40_at]

/-- The attention weight. -/
theorem v51_at (i j : Fin 12) (h : Fin 8) : val_main_v51 (F := Ideal) x0 x2 x3 x4 x5 x6 x7 x8 (ix5 b s i j h)
    = Spec.attR slope (hid x0 x2 x3 x4 x5 b s) (fun f o => x6 (ix3 h f o)) (fun o => x7 (ix2 h o)) (fun o => x8 (ix2 h o))
        (top x0 x2 x3 x4 x5 x6 x7 x8 b s h) i j := by
  pointwise [val_main_v51, val_main_v50, val_main_v49, val_main_v48, val_main_cst_7, val_main_v47, val_main_v46, val_main_v45, val_main_v44, v40_at]
  rfl

/-- The attended sum. -/
theorem v53_at (i : Fin 12) (h : Fin 8) (o : Fin 64) : val_main_v53 (F := Ideal) x0 x2 x3 x4 x5 x6 x7 x8 (ix5 b s i h o)
    = ∑ j, Spec.proj (hid x0 x2 x3 x4 x5 b s) (fun f => x6 (ix3 h f o)) j
        * Spec.attR slope (hid x0 x2 x3 x4 x5 b s) (fun f o => x6 (ix3 h f o)) (fun o => x7 (ix2 h o)) (fun o => x8 (ix2 h o))
            (top x0 x2 x3 x4 x5 x6 x7 x8 b s h) i j := by
  pointwise [val_main_v53, val_main_v52, v51_at, v30_at]

/-- The exponential linear unit of the attended sum. -/
theorem v54_at (i : Fin 12) (h : Fin 8) (o : Fin 64) : val_main_v54 (F := Ideal) x0 x2 x3 x4 x5 x6 x7 x8 (ix5 b s i h o)
    = Spec.eluR (val_main_v53 (F := Ideal) x0 x2 x3 x4 x5 x6 x7 x8 (ix5 b s i h o)) := by
  pointwise [val_main_v54, val_main_call2_v1, val_main_call2_v0, val_main_call2_cst, val_main_call2_v7, val_main_call2_v6, val_main_call2_cst_2,
    val_main_call2_v5, val_main_call2_v4, val_main_call2_v3, val_main_call2_v2, val_main_call2_cst_0, val_main_call2_call0_v1,
    val_main_call2_call0_v0, val_main_call2_cst_1, id]
  simp only [Spec.eluR, one_mul]

/-- A head's columns of one attention layer. -/
theorem v55_at (i : Fin 12) (h : Fin 8) (o : Fin 64) : val_main_v55 (F := Ideal) x0 x2 x3 x4 x5 x6 x7 x8 (ix4 b s i ⟨h.val * 64 + o.val, by omega⟩)
    = Spec.eluR (val_main_v53 (F := Ideal) x0 x2 x3 x4 x5 x6 x7 x8 (ix5 b s i h o)) := by
  rw [← v54_at]
  pointwise [val_main_v55]

/-- The second attention layer is the first at its own weights. -/
theorem v81_eq (x9 : FVec Ideal S8x256x64 .f32) (x10 x11 : FVec Ideal S8x64 .f32) :
    val_main_v81 (F := Ideal) x0 x2 x3 x4 x5 x9 x10 x11 = val_main_v55 (F := Ideal) x0 x2 x3 x4 x5 x9 x10 x11 := rfl

variable (x9 : FVec Ideal S8x256x64 .f32) (x10 x11 : FVec Ideal S8x64 .f32)

/-- A node's row at a column of the first eight heads. -/
theorem v85_lo (h : Fin 8) (o : Fin 64) :
    val_main_v85 (F := Ideal) x0 x2 x3 x4 x5 x6 x7 x8 x9 x10 x11 (ix3 b s ⟨h.val * 64 + o.val, by omega⟩)
      = Spec.nodeR slope (hid x0 x2 x3 x4 x5 b s) (fun f o => x6 (ix3 h f o)) (fun o => x7 (ix2 h o)) (fun o => x8 (ix2 h o))
          (top x0 x2 x3 x4 x5 x6 x7 x8 b s h) o := by
  pointwise [val_main_v85, val_main_v84, val_main_cst_13, val_main_v83, val_main_cst_12, val_main_v82]
  simp only [dif_pos (show h.val * 64 + o.val < 512 by omega)]
  pointwise [v55_at, v53_at]
  rfl

/-- A node's row at a column of the last eight heads. -/
theorem v85_hi (h : Fin 8) (o : Fin 64) :
    val_main_v85 (F := Ideal) x0 x2 x3 x4 x5 x6 x7 x8 x9 x10 x11 (ix3 b s ⟨512 + (h.val * 64 + o.val), by omega⟩)
      = Spec.nodeR slope (hid x0 x2 x3 x4 x5 b s) (fun f o => x9 (ix3 h f o)) (fun o => x10 (ix2 h o)) (fun o => x11 (ix2 h o))
          (top x0 x2 x3 x4 x5 x9 x10 x11 b s h) o := by
  pointwise [val_main_v85, val_main_v84, val_main_cst_13, val_main_v83, val_main_cst_12, val_main_v82]
  rw [v81_eq]
  pointwise [v55_at, v53_at]
  rfl

end Cert.ReferenceIdeal.Node

end
end
-- ==== Proof.RefGru.lean ====
/- The reference's gated recurrent unit: one step as a function of its arrays, each of the eight steps as that function,
   and the two passes read at one element. -/
module

public import proofs.«01_k».proof.Proof.Gen.ReferenceIdeal.Read
public import proofs.«01_k».proof.Proof.NetSpec
public import Idealize.ShloMosaic.Lib.Pointwise

@[expose] public section

set_option maxRecDepth 16384

noncomputable section

namespace Cert.ReferenceIdeal.Gru

open Idealize.ShloMosaic Idealize.ShloMosaic.TcCoe Idealize.SL.Sem
open Cert.ReferenceIdeal Cert.ReferenceIdeal.Gen Cert.ReferenceIdeal.Read

/-- A gate's argument over whole arrays: two products and a bias. -/
def pre (w : FVec Ideal S256x128 .f32) (u : FVec Ideal S128x128 .f32) (b : FVec Ideal S128 .f32)
    (x : FVec Ideal S16x200x256 .f32) (h : FVec Ideal S16x200x128 .f32) : FVec Ideal S16x200x128 .f32 :=
  addf (addf (Host.dotGeneral (φ₁ := .f32) (φ₂ := .f32) dot_S16x200x256_S256x128_S16x200x128_2_0_01_1_n_n none x w)
      (Host.dotGeneral (φ₁ := .f32) (φ₂ := .f32) dot_S16x200x128_S128x128_S16x200x128_2_0_01_1_n_n none h u))
    (broadcastInDim S16x200x128 ![0, 1, 2] bcast_S1x1x128_S16x200x128_0_1_2 (broadcastInDim S1x1x128 ![2] bcast_S128_S1x1x128_2 b))

/-- A gate: the logistic function of its argument, as one over one plus an exponential. -/
def sig (y : FVec Ideal S16x200x128 .f32) : FVec Ideal S16x200x128 .f32 :=
  Host.divf (broadcastInDim S16x200x128 ![] bcast_S_S16x200x128 (constant S_ .f32 0x3F800000#32))
    (addf (broadcastInDim S16x200x128 ![] bcast_S_S16x200x128 (constant S_ .f32 0x3F800000#32)) (Host.exp (Host.negf y)))

/-- The new state from the update gate, the candidate's argument and the old state. -/
def mix (z y h : FVec Ideal S16x200x128 .f32) : FVec Ideal S16x200x128 .f32 :=
  addf (mulf (subf (broadcastInDim S16x200x128 ![] bcast_S_S16x200x128 (constant S_ .f32 0x3F800000#32)) z) (Host.tanh y)) (mulf z h)

/-- One step over whole arrays. -/
def cell (w0 w1 w2 : FVec Ideal S256x128 .f32) (u0 u1 u2 : FVec Ideal S128x128 .f32) (b0 b1 b2 : FVec Ideal S128 .f32)
    (x : FVec Ideal S16x200x256 .f32) (h : FVec Ideal S16x200x128 .f32) : FVec Ideal S16x200x128 .f32 :=
  mix (sig (pre w0 u0 b0 x h)) (pre w2 u2 b2 x (mulf (sig (pre w1 u1 b1 x h)) h)) h

/-- A gate's argument at one element. -/
theorem pre_at (w : FVec Ideal S256x128 .f32) (u : FVec Ideal S128x128 .f32) (b : FVec Ideal S128 .f32)
    (x : FVec Ideal S16x200x256 .f32) (h : FVec Ideal S16x200x128 .f32) (n : Fin 16) (i : Fin 200) (o : Fin 128) :
    pre w u b x h (ix3 n i o) = Spec.gate (fun k o => w (ix2 k o)) (fun k o => u (ix2 k o)) (fun o => b (ix1 o))
      (fun k => x (ix3 n i k)) (fun k => h (ix3 n i k)) o := by
  pointwise [pre]
  rfl

/-- A gate at one element. -/
theorem sig_at (y : FVec Ideal S16x200x128 .f32) (n : Fin 16) (i : Fin 200) (o : Fin 128) :
    sig y (ix3 n i o) = Ideal.logistic (y (ix3 n i o)) := by
  pointwise [sig]
  rfl

/-- The new state at one element. -/
theorem mix_at (z y h : FVec Ideal S16x200x128 .f32) (n : Fin 16) (i : Fin 200) (o : Fin 128) :
    mix z y h (ix3 n i o) = (1 - z (ix3 n i o)) * Ideal.tanh (y (ix3 n i o)) + z (ix3 n i o) * h (ix3 n i o) := by
  pointwise [mix]

/-- A product at one element. -/
theorem mul_at (y h : FVec Ideal S16x200x128 .f32) (n : Fin 16) (i : Fin 200) (o : Fin 128) :
    mulf y h (ix3 n i o) = y (ix3 n i o) * h (ix3 n i o) := rfl

/-- One step at one element, over weights read from a stack of three. -/
theorem cell_at (w0 w1 w2 : FVec Ideal S256x128 .f32) (u0 u1 u2 : FVec Ideal S128x128 .f32) (b0 b1 b2 : FVec Ideal S128 .f32)
    (w : Fin 3 → Fin 256 → Fin 128 → EReal) (u : Fin 3 → Fin 128 → Fin 128 → EReal) (b : Fin 3 → Fin 128 → EReal)
    (hw0 : ∀ k o, w0 (ix2 k o) = w 0 k o) (hw1 : ∀ k o, w1 (ix2 k o) = w 1 k o) (hw2 : ∀ k o, w2 (ix2 k o) = w 2 k o)
    (hu0 : ∀ k o, u0 (ix2 k o) = u 0 k o) (hu1 : ∀ k o, u1 (ix2 k o) = u 1 k o) (hu2 : ∀ k o, u2 (ix2 k o) = u 2 k o)
    (hb0 : ∀ o, b0 (ix1 o) = b 0 o) (hb1 : ∀ o, b1 (ix1 o) = b 1 o) (hb2 : ∀ o, b2 (ix1 o) = b 2 o)
    (x : FVec Ideal S16x200x256 .f32) (h : FVec Ideal S16x200x128 .f32) (n : Fin 16) (i : Fin 200) (o : Fin 128) :
    cell w0 w1 w2 u0 u1 u2 b0 b1 b2 x h (ix3 n i o) = Spec.gru w u b (fun k => x (ix3 n i k)) (fun k => h (ix3 n i k)) o := by
  simp only [cell, mix_at, sig_at, pre_at, mul_at, hw0, hw1, hw2, hu0, hu1, hu2, hb0, hb1, hb2]
  rfl

variable (x0 : FVec Ideal S16x200x192 .f32) (x1 : FVec Ideal S4x200x200 .f32) (x2 : FVec Ideal S16x256 .f32) (x3 x4 x5 : FVec Ideal S256 .f32)
  (x6 : FVec Ideal S8x256x64 .f32) (x7 x8 : FVec Ideal S8x64 .f32) (x9 : FVec Ideal S8x256x64 .f32) (x10 x11 : FVec Ideal S8x64 .f32)
  (x12 x13 : FVec Ideal S1024x256 .f32) (x14 : FVec Ideal S256 .f32)
  (x15 : FVec Ideal S3x256x128 .f32) (x16 : FVec Ideal S3x128x128 .f32) (x17 : FVec Ideal S3x128 .f32)
  (x18 : FVec Ideal S3x256x128 .f32) (x19 : FVec Ideal S3x128x128 .f32) (x20 : FVec Ideal S3x128 .f32)

/-- One step of the reference over a stack of weights. -/
def step (w : FVec Ideal S3x256x128 .f32) (u : FVec Ideal S3x128x128 .f32) (b : FVec Ideal S3x128 .f32)
    (x : FVec Ideal S16x200x256 .f32) (h : FVec Ideal S16x200x128 .f32) : FVec Ideal S16x200x128 .f32 :=
  cell (val_main_v113 (F := Ideal) w) (val_main_v131 (F := Ideal) w) (val_main_v149 (F := Ideal) w)
    (val_main_v116 (F := Ideal) u) (val_main_v134 (F := Ideal) u) (val_main_v153 (F := Ideal) u)
    (val_main_v120 (F := Ideal) b) (val_main_v138 (F := Ideal) b) (val_main_v157 (F := Ideal) b) x h

/-- One step at one row, over the stacks of weights. -/
theorem step_at (w : FVec Ideal S3x256x128 .f32) (u : FVec Ideal S3x128x128 .f32) (b : FVec Ideal S3x128 .f32)
    (x : FVec Ideal S16x200x256 .f32) (h : FVec Ideal S16x200x128 .f32) (n : Fin 16) (i : Fin 200) :
    (fun o => step w u b x h (ix3 n i o)) = Spec.gru (fun g k o => w (ix3 g k o)) (fun g k o => u (ix3 g k o)) (fun g o => b (ix2 g o))
      (fun k => x (ix3 n i k)) (fun k => h (ix3 n i k)) := by
  funext o
  refine cell_at _ _ _ _ _ _ _ _ _ (fun g k o => w (ix3 g k o)) (fun g k o => u (ix3 g k o)) (fun g o => b (ix2 g o))
    ?_ ?_ ?_ ?_ ?_ ?_ ?_ ?_ ?_ x h n i o
  · intro k o; pointwise [val_main_v113, val_main_v112]
  · intro k o; pointwise [val_main_v131, val_main_v130]
  · intro k o; pointwise [val_main_v149, val_main_v148]
  · intro k o; pointwise [val_main_v116, val_main_v115]
  · intro k o; pointwise [val_main_v134, val_main_v133]
  · intro k o; pointwise [val_main_v153, val_main_v152]
  · intro o; pointwise [val_main_v120, val_main_v119]
  · intro o; pointwise [val_main_v138, val_main_v137]
  · intro o; pointwise [val_main_v157, val_main_v156]

/-- A step of the forward pass. -/
theorem v166_eq : val_main_v166 (F := Ideal) x0 x1 x2 x3 x4 x5 x6 x7 x8 x9 x10 x11 x12 x13 x14 x15 x16 x17
    = step x15 x16 x17 (val_main_v104 (F := Ideal) x0 x1 x2 x3 x4 x5 x6 x7 x8 x9 x10 x11 x12 x13 x14)
        (val_main_v111 (F := Ideal)) := rfl

/-- A step of the forward pass. -/
theorem v221_eq : val_main_v221 (F := Ideal) x0 x1 x2 x3 x4 x5 x6 x7 x8 x9 x10 x11 x12 x13 x14 x15 x16 x17
    = step x15 x16 x17 (val_main_v106 (F := Ideal) x0 x1 x2 x3 x4 x5 x6 x7 x8 x9 x10 x11 x12 x13 x14)
        (val_main_v166 (F := Ideal) x0 x1 x2 x3 x4 x5 x6 x7 x8 x9 x10 x11 x12 x13 x14 x15 x16 x17) := rfl

/-- A step of the forward pass. -/
theorem v276_eq : val_main_v276 (F := Ideal) x0 x1 x2 x3 x4 x5 x6 x7 x8 x9 x10 x11 x12 x13 x14 x15 x16 x17
    = step x15 x16 x17 (val_main_v108 (F := Ideal) x0 x1 x2 x3 x4 x5 x6 x7 x8 x9 x10 x11 x12 x13 x14)
        (val_main_v221 (F := Ideal) x0 x1 x2 x3 x4 x5 x6 x7 x8 x9 x10 x11 x12 x13 x14 x15 x16 x17) := rfl

/-- A step of the forward pass. -/
theorem v331_eq : val_main_v331 (F := Ideal) x0 x1 x2 x3 x4 x5 x6 x7 x8 x9 x10 x11 x12 x13 x14 x15 x16 x17
    = step x15 x16 x17 (val_main_v110 (F := Ideal) x0 x1 x2 x3 x4 x5 x6 x7 x8 x9 x10 x11 x12 x13 x14)
        (val_main_v276 (F := Ideal) x0 x1 x2 x3 x4 x5 x6 x7 x8 x9 x10 x11 x12 x13 x14 x15 x16 x17) := rfl

/-- The forward pass's zero state. -/
theorem v111_at (n : Fin 16) (i : Fin 200) (k : Fin 128) : val_main_v111 (F := Ideal) (ix3 n i k) = 0 := by
  pointwise [val_main_v111, val_main_cst_16]

/-- The forward pass at one row: four steps from the zero state. -/
theorem fwd_at (n : Fin 16) (i : Fin 200) :
    (fun o => val_main_v331 (F := Ideal) x0 x1 x2 x3 x4 x5 x6 x7 x8 x9 x10 x11 x12 x13 x14 x15 x16 x17 (ix3 n i o))
      = Spec.gru4 (fun g k o => x15 (ix3 g k o)) (fun g k o => x16 (ix3 g k o)) (fun g o => x17 (ix2 g o))
          (fun k => val_main_v104 (F := Ideal) x0 x1 x2 x3 x4 x5 x6 x7 x8 x9 x10 x11 x12 x13 x14 (ix3 n i k))
          (fun k => val_main_v106 (F := Ideal) x0 x1 x2 x3 x4 x5 x6 x7 x8 x9 x10 x11 x12 x13 x14 (ix3 n i k))
          (fun k => val_main_v108 (F := Ideal) x0 x1 x2 x3 x4 x5 x6 x7 x8 x9 x10 x11 x12 x13 x14 (ix3 n i k))
          (fun k => val_main_v110 (F := Ideal) x0 x1 x2 x3 x4 x5 x6 x7 x8 x9 x10 x11 x12 x13 x14 (ix3 n i k)) := by
  simp only [v331_eq, v276_eq, v221_eq, v166_eq, step_at, v111_at]
  rfl

/-- A step of the backward pass. -/
theorem v395_eq : val_main_v395 (F := Ideal) x0 x1 x2 x3 x4 x5 x6 x7 x8 x9 x10 x11 x12 x13 x14 x18 x19 x20
    = step x18 x19 x20 (val_main_v333 (F := Ideal) x0 x1 x2 x3 x4 x5 x6 x7 x8 x9 x10 x11 x12 x13 x14)
        (val_main_v340 (F := Ideal)) := rfl

/-- A step of the backward pass. -/
theorem v450_eq : val_main_v450 (F := Ideal) x0 x1 x2 x3 x4 x5 x6 x7 x8 x9 x10 x11 x12 x13 x14 x18 x19 x20
    = step x18 x19 x20 (val_main_v335 (F := Ideal) x0 x1 x2 x3 x4 x5 x6 x7 x8 x9 x10 x11 x12 x13 x14)
        (val_main_v395 (F := Ideal) x0 x1 x2 x3 x4 x5 x6 x7 x8 x9 x10 x11 x12 x13 x14 x18 x19 x20) := rfl

/-- A step of the backward pass. -/
theorem v505_eq : val_main_v505 (F := Ideal) x0 x1 x2 x3 x4 x5 x6 x7 x8 x9 x10 x11 x12 x13 x14 x18 x19 x20
    = step x18 x19 x20 (val_main_v337 (F := Ideal) x0 x1 x2 x3 x4 x5 x6 x7 x8 x9 x10 x11 x12 x13 x14)
        (val_main_v450 (F := Ideal) x0 x1 x2 x3 x4 x5 x6 x7 x8 x9 x10 x11 x12 x13 x14 x18 x19 x20) := rfl

/-- A step of the backward pass. -/
theorem v560_eq : val_main_v560 (F := Ideal) x0 x1 x2 x3 x4 x5 x6 x7 x8 x9 x10 x11 x12 x13 x14 x18 x19 x20
    = step x18 x19 x20 (val_main_v339 (F := Ideal) x0 x1 x2 x3 x4 x5 x6 x7 x8 x9 x10 x11 x12 x13 x14)
        (val_main_v505 (F := Ideal) x0 x1 x2 x3 x4 x5 x6 x7 x8 x9 x10 x11 x12 x13 x14 x18 x19 x20) := rfl

/-- The backward pass's zero state. -/
theorem v340_at (n : Fin 16) (i : Fin 200) (k : Fin 128) : val_main_v340 (F := Ideal) (ix3 n i k) = 0 := by
  pointwise [val_main_v340, val_main_cst_37]

/-- The backward pass at one row: four steps from the zero state. -/
theorem bwd_at (n : Fin 16) (i : Fin 200) :
    (fun o => val_main_v560 (F := Ideal) x0 x1 x2 x3 x4 x5 x6 x7 x8 x9 x10 x11 x12 x13 x14 x18 x19 x20 (ix3 n i o))
      = Spec.gru4 (fun g k o => x18 (ix3 g k o)) (fun g k o => x19 (ix3 g k o)) (fun g o => x20 (ix2 g o))
          (fun k => val_main_v333 (F := Ideal) x0 x1 x2 x3 x4 x5 x6 x7 x8 x9 x10 x11 x12 x13 x14 (ix3 n i k))
          (fun k => val_main_v335 (F := Ideal) x0 x1 x2 x3 x4 x5 x6 x7 x8 x9 x10 x11 x12 x13 x14 (ix3 n i k))
          (fun k => val_main_v337 (F := Ideal) x0 x1 x2 x3 x4 x5 x6 x7 x8 x9 x10 x11 x12 x13 x14 (ix3 n i k))
          (fun k => val_main_v339 (F := Ideal) x0 x1 x2 x3 x4 x5 x6 x7 x8 x9 x10 x11 x12 x13 x14 (ix3 n i k)) := by
  simp only [v560_eq, v505_eq, v450_eq, v395_eq, step_at, v340_at]
  rfl

end Cert.ReferenceIdeal.Gru

end
end
-- ==== Proof.RefNet.lean ====
/- The reference's second stage, read at one element: the aggregation over the node rows, the two recurrent passes, and
   the output head. -/
module

public import proofs.«01_k».proof.Proof.RefGru

@[expose] public section

set_option maxRecDepth 16384

noncomputable section

namespace Cert.ReferenceIdeal.Net

open Idealize.ShloMosaic Idealize.ShloMosaic.TcCoe Idealize.SL.Sem
open Cert.ReferenceIdeal Cert.ReferenceIdeal.Gen Cert.ReferenceIdeal.Read

variable (x0 : FVec Ideal S16x200x192 .f32) (x1 : FVec Ideal S4x200x200 .f32) (x2 : FVec Ideal S16x256 .f32) (x3 x4 x5 : FVec Ideal S256 .f32)
  (x6 : FVec Ideal S8x256x64 .f32) (x7 x8 : FVec Ideal S8x64 .f32) (x9 : FVec Ideal S8x256x64 .f32) (x10 x11 : FVec Ideal S8x64 .f32)
  (x12 x13 : FVec Ideal S1024x256 .f32) (x14 : FVec Ideal S256 .f32)
  (x15 : FVec Ideal S3x256x128 .f32) (x16 : FVec Ideal S3x128x128 .f32) (x17 : FVec Ideal S3x128 .f32)
  (x18 : FVec Ideal S3x256x128 .f32) (x19 : FVec Ideal S3x128x128 .f32) (x20 : FVec Ideal S3x128 .f32)
  (x21 : FVec Ideal S1280x256 .f32) (x22 : FVec Ideal S256 .f32) (x23 : FVec Ideal S256x8 .f32) (x24 : FVec Ideal S8 .f32)

/-- The node rows of one batch entry. -/
def rows (n : Fin 16) (j : Fin 200) (k : Fin 1024) : EReal :=
  val_main_v85 (F := Ideal) x0 x2 x3 x4 x5 x6 x7 x8 x9 x10 x11 (ix3 n j k)

/-- One row of the normalised adjacency. -/
theorem v91_at (l : Fin 4) (i j : Fin 200) : val_main_v91 (F := Ideal) x1 (ix3 l i j)
    = Ideal.div (x1 (ix3 l i j)) (∑ j, x1 (ix3 l i j) + Spec.epsAdj) := by
  pointwise [val_main_v91, val_main_v90, val_main_v89, val_main_v88, val_main_cst_15, val_main_v87, val_main_v86, val_main_cst_14]
  rfl

/-- The neighbours' average. -/
theorem v93_at (l : Fin 4) (n : Fin 16) (i : Fin 200) (k : Fin 1024) :
    val_main_v93 (F := Ideal) x0 x1 x2 x3 x4 x5 x6 x7 x8 x9 x10 x11 (ix4 l n i k)
      = ∑ j, rows x0 x2 x3 x4 x5 x6 x7 x8 x9 x10 x11 n j k * Ideal.div (x1 (ix3 l i j)) (∑ j, x1 (ix3 l i j) + Spec.epsAdj) := by
  pointwise [val_main_v93, val_main_v92, v91_at]
  rfl

/-- One row of one aggregation. -/
theorem v102_at (l : Fin 4) (n : Fin 16) (i : Fin 200) (o : Fin 256) :
    val_main_v102 (F := Ideal) x0 x1 x2 x3 x4 x5 x6 x7 x8 x9 x10 x11 x12 x13 x14 (ix4 l n i o)
      = Spec.aggR (fun j => x1 (ix3 l i j)) (rows x0 x2 x3 x4 x5 x6 x7 x8 x9 x10 x11 n) (rows x0 x2 x3 x4 x5 x6 x7 x8 x9 x10 x11 n i)
          (fun k o => x13 (ix2 k o)) (fun k o => x12 (ix2 k o)) (fun o => x14 (ix1 o)) o := by
  pointwise [val_main_v102, val_main_call5_v0, val_main_call5_cst, val_main_v101, val_main_v100, val_main_v99, val_main_v98, val_main_v97, val_main_v96,
    val_main_v95, val_main_v94, v93_at]
  rfl

/-- Input of a step: aggregation 0. -/
theorem v104_at (n : Fin 16) (i : Fin 200) (o : Fin 256) : val_main_v104 (F := Ideal) x0 x1 x2 x3 x4 x5 x6 x7 x8 x9 x10 x11 x12 x13 x14 (ix3 n i o)
    = val_main_v102 (F := Ideal) x0 x1 x2 x3 x4 x5 x6 x7 x8 x9 x10 x11 x12 x13 x14 (ix4 0 n i o) := by
  pointwise [val_main_v104, val_main_v103]

/-- Input of a step: aggregation 1. -/
theorem v106_at (n : Fin 16) (i : Fin 200) (o : Fin 256) : val_main_v106 (F := Ideal) x0 x1 x2 x3 x4 x5 x6 x7 x8 x9 x10 x11 x12 x13 x14 (ix3 n i o)
    = val_main_v102 (F := Ideal) x0 x1 x2 x3 x4 x5 x6 x7 x8 x9 x10 x11 x12 x13 x14 (ix4 1 n i o) := by
  pointwise [val_main_v106, val_main_v105]

/-- Input of a step: aggregation 2. -/
theorem v108_at (n : Fin 16) (i : Fin 200) (o : Fin 256) : val_main_v108 (F := Ideal) x0 x1 x2 x3 x4 x5 x6 x7 x8 x9 x10 x11 x12 x13 x14 (ix3 n i o)
    = val_main_v102 (F := Ideal) x0 x1 x2 x3 x4 x5 x6 x7 x8 x9 x10 x11 x12 x13 x14 (ix4 2 n i o) := by
  pointwise [val_main_v108, val_main_v107]

/-- Input of a step: aggregation 3. -/
theorem v110_at (n : Fin 16) (i : Fin 200) (o : Fin 256) : val_main_v110 (F := Ideal) x0 x1 x2 x3 x4 x5 x6 x7 x8 x9 x10 x11 x12 x13 x14 (ix3 n i o)
    = val_main_v102 (F := Ideal) x0 x1 x2 x3 x4 x5 x6 x7 x8 x9 x10 x11 x12 x13 x14 (ix4 3 n i o) := by
  pointwise [val_main_v110, val_main_v109]

/-- Input of a step: aggregation 3. -/
theorem v333_at (n : Fin 16) (i : Fin 200) (o : Fin 256) : val_main_v333 (F := Ideal) x0 x1 x2 x3 x4 x5 x6 x7 x8 x9 x10 x11 x12 x13 x14 (ix3 n i o)
    = val_main_v102 (F := Ideal) x0 x1 x2 x3 x4 x5 x6 x7 x8 x9 x10 x11 x12 x13 x14 (ix4 3 n i o) := by
  pointwise [val_main_v333, val_main_v332]

/-- Input of a step: aggregation 2. -/
theorem v335_at (n : Fin 16) (i : Fin 200) (o : Fin 256) : val_main_v335 (F := Ideal) x0 x1 x2 x3 x4 x5 x6 x7 x8 x9 x10 x11 x12 x13 x14 (ix3 n i o)
    = val_main_v102 (F := Ideal) x0 x1 x2 x3 x4 x5 x6 x7 x8 x9 x10 x11 x12 x13 x14 (ix4 2 n i o) := by
  pointwise [val_main_v335, val_main_v334]

/-- Input of a step: aggregation 1. -/
theorem v337_at (n : Fin 16) (i : Fin 200) (o : Fin 256) : val_main_v337 (F := Ideal) x0 x1 x2 x3 x4 x5 x6 x7 x8 x9 x10 x11 x12 x13 x14 (ix3 n i o)
    = val_main_v102 (F := Ideal) x0 x1 x2 x3 x4 x5 x6 x7 x8 x9 x10 x11 x12 x13 x14 (ix4 1 n i o) := by
  pointwise [val_main_v337, val_main_v336]

/-- Input of a step: aggregation 0. -/
theorem v339_at (n : Fin 16) (i : Fin 200) (o : Fin 256) : val_main_v339 (F := Ideal) x0 x1 x2 x3 x4 x5 x6 x7 x8 x9 x10 x11 x12 x13 x14 (ix3 n i o)
    = val_main_v102 (F := Ideal) x0 x1 x2 x3 x4 x5 x6 x7 x8 x9 x10 x11 x12 x13 x14 (ix4 0 n i o) := by
  pointwise [val_main_v339, val_main_v338]

/-- The joint row's first part: the node row. -/
theorem v561_lo (n : Fin 16) (i : Fin 200) (k : Fin 1024) :
    val_main_v561 (F := Ideal) x0 x1 x2 x3 x4 x5 x6 x7 x8 x9 x10 x11 x12 x13 x14 x15 x16 x17 x18 x19 x20 (ix3 n i ⟨k.val, by omega⟩)
      = rows x0 x2 x3 x4 x5 x6 x7 x8 x9 x10 x11 n i k := by
  pointwise [val_main_v561]
  rfl

/-- The joint row's middle part: the forward pass. -/
theorem v561_mid (n : Fin 16) (i : Fin 200) (k : Fin 128) :
    val_main_v561 (F := Ideal) x0 x1 x2 x3 x4 x5 x6 x7 x8 x9 x10 x11 x12 x13 x14 x15 x16 x17 x18 x19 x20 (ix3 n i ⟨1024 + k.val, by omega⟩)
      = val_main_v331 (F := Ideal) x0 x1 x2 x3 x4 x5 x6 x7 x8 x9 x10 x11 x12 x13 x14 x15 x16 x17 (ix3 n i k) := by
  pointwise [val_main_v561]

/-- The joint row's last part: the backward pass. -/
theorem v561_hi (n : Fin 16) (i : Fin 200) (k : Fin 128) :
    val_main_v561 (F := Ideal) x0 x1 x2 x3 x4 x5 x6 x7 x8 x9 x10 x11 x12 x13 x14 x15 x16 x17 x18 x19 x20 (ix3 n i ⟨1152 + k.val, by omega⟩)
      = val_main_v560 (F := Ideal) x0 x1 x2 x3 x4 x5 x6 x7 x8 x9 x10 x11 x12 x13 x14 x18 x19 x20 (ix3 n i k) := by
  pointwise [val_main_v561]
  rw [dif_neg (show ¬ 1152 + k.val < 1024 by omega), dif_neg (show ¬ 1152 + k.val - 1024 < 128 by omega)]
  exact congrArg (fun z => val_main_v560 (F := Ideal) x0 x1 x2 x3 x4 x5 x6 x7 x8 x9 x10 x11 x12 x13 x14 x18 x19 x20 (ix3 n i z))
    (Fin.ext (show 1152 + k.val - 1024 - 128 = k.val by omega))

/-- A sum over 1280 is its first 1024 terms, the next 128 and the last 128. -/
theorem sum_cut (f : Fin 1280 → EReal) : ∑ k, f k
    = ∑ k : Fin 1024, f ⟨k.val, by omega⟩ + ∑ k : Fin 128, f ⟨1024 + k.val, by omega⟩ + ∑ k : Fin 128, f ⟨1152 + k.val, by omega⟩ := by
  rw [show (∑ k, f k) = ∑ k : Fin (1152 + 128), f k from rfl, Fin.sum_univ_add,
    show (∑ k : Fin 1152, f (Fin.castAdd 128 k)) = ∑ k : Fin (1024 + 128), f (Fin.castAdd 128 k) from rfl, Fin.sum_univ_add]
  rfl

/-- The hidden layer of the head. -/
theorem v566_at (n : Fin 16) (i : Fin 200) (o : Fin 256) :
    val_main_v566 (F := Ideal) x0 x1 x2 x3 x4 x5 x6 x7 x8 x9 x10 x11 x12 x13 x14 x15 x16 x17 x18 x19 x20 x21 x22 (ix3 n i o)
      = max (∑ k, val_main_v561 (F := Ideal) x0 x1 x2 x3 x4 x5 x6 x7 x8 x9 x10 x11 x12 x13 x14 x15 x16 x17 x18 x19 x20 (ix3 n i k) * x21 (ix2 k o) + x22 (ix1 o)) 0 := by
  pointwise [val_main_v566, val_main_call6_v0, val_main_call6_cst, val_main_v565, val_main_v564, val_main_v563, val_main_v562]

/-- The result at one element, over the hidden layer of the head. -/
theorem v570_at (n : Fin 16) (i : Fin 200) (q : Fin 8) :
    val_main_v570 (F := Ideal) x0 x1 x2 x3 x4 x5 x6 x7 x8 x9 x10 x11 x12 x13 x14 x15 x16 x17 x18 x19 x20 x21 x22 x23 x24 (ix3 n i q)
      = ∑ o, val_main_v566 (F := Ideal) x0 x1 x2 x3 x4 x5 x6 x7 x8 x9 x10 x11 x12 x13 x14 x15 x16 x17 x18 x19 x20 x21 x22 (ix3 n i o) * x23 (ix2 o q) + x24 (ix1 q) := by
  pointwise [val_main_v570, val_main_v569, val_main_v568, val_main_v567]

/-- The forward pass over the rows of the aggregations. -/
theorem fwd_at (n : Fin 16) (i : Fin 200) :
    (fun o => val_main_v331 (F := Ideal) x0 x1 x2 x3 x4 x5 x6 x7 x8 x9 x10 x11 x12 x13 x14 x15 x16 x17 (ix3 n i o))
      = Spec.gru4 (fun g k o => x15 (ix3 g k o)) (fun g k o => x16 (ix3 g k o)) (fun g o => x17 (ix2 g o))
          (fun o => val_main_v102 (F := Ideal) x0 x1 x2 x3 x4 x5 x6 x7 x8 x9 x10 x11 x12 x13 x14 (ix4 0 n i o))
          (fun o => val_main_v102 (F := Ideal) x0 x1 x2 x3 x4 x5 x6 x7 x8 x9 x10 x11 x12 x13 x14 (ix4 1 n i o))
          (fun o => val_main_v102 (F := Ideal) x0 x1 x2 x3 x4 x5 x6 x7 x8 x9 x10 x11 x12 x13 x14 (ix4 2 n i o))
          (fun o => val_main_v102 (F := Ideal) x0 x1 x2 x3 x4 x5 x6 x7 x8 x9 x10 x11 x12 x13 x14 (ix4 3 n i o)) := by
  rw [Gru.fwd_at]
  simp only [v104_at, v106_at, v108_at, v110_at]

/-- The backward pass over the rows of the aggregations. -/
theorem bwd_at (n : Fin 16) (i : Fin 200) :
    (fun o => val_main_v560 (F := Ideal) x0 x1 x2 x3 x4 x5 x6 x7 x8 x9 x10 x11 x12 x13 x14 x18 x19 x20 (ix3 n i o))
      = Spec.gru4 (fun g k o => x18 (ix3 g k o)) (fun g k o => x19 (ix3 g k o)) (fun g o => x20 (ix2 g o))
          (fun o => val_main_v102 (F := Ideal) x0 x1 x2 x3 x4 x5 x6 x7 x8 x9 x10 x11 x12 x13 x14 (ix4 3 n i o))
          (fun o => val_main_v102 (F := Ideal) x0 x1 x2 x3 x4 x5 x6 x7 x8 x9 x10 x11 x12 x13 x14 (ix4 2 n i o))
          (fun o => val_main_v102 (F := Ideal) x0 x1 x2 x3 x4 x5 x6 x7 x8 x9 x10 x11 x12 x13 x14 (ix4 1 n i o))
          (fun o => val_main_v102 (F := Ideal) x0 x1 x2 x3 x4 x5 x6 x7 x8 x9 x10 x11 x12 x13 x14 (ix4 0 n i o)) := by
  rw [Gru.bwd_at]
  simp only [v333_at, v335_at, v337_at, v339_at]

/-- What the reference returns at one element: the second stage in the reference's order over its node rows. -/
theorem net_at (n : Fin 16) (i : Fin 200) (q : Fin 8) :
    val_main_v570 (F := Ideal) x0 x1 x2 x3 x4 x5 x6 x7 x8 x9 x10 x11 x12 x13 x14 x15 x16 x17 x18 x19 x20 x21 x22 x23 x24 (ix3 n i q)
      = Spec.net Spec.aggR (fun l i j => x1 (ix3 l i j)) (fun k o => x13 (ix2 k o)) (fun k o => x12 (ix2 k o)) (fun o => x14 (ix1 o))
          (fun g k o => x15 (ix3 g k o)) (fun g k o => x16 (ix3 g k o)) (fun g o => x17 (ix2 g o))
          (fun g k o => x18 (ix3 g k o)) (fun g k o => x19 (ix3 g k o)) (fun g o => x20 (ix2 g o))
          (fun k o => x21 (ix2 ⟨k.val, by omega⟩ o)) (fun k o => x21 (ix2 ⟨1024 + k.val, by omega⟩ o))
          (fun k o => x21 (ix2 ⟨1152 + k.val, by omega⟩ o)) (fun o => x22 (ix1 o))
          (fun o q => x23 (ix2 o q)) (fun q => x24 (ix1 q)) (rows x0 x2 x3 x4 x5 x6 x7 x8 x9 x10 x11 n) i q := by
  have hf := fun k => congrFun (fwd_at x0 x1 x2 x3 x4 x5 x6 x7 x8 x9 x10 x11 x12 x13 x14 x15 x16 x17 n i) k
  have hb := fun k => congrFun (bwd_at x0 x1 x2 x3 x4 x5 x6 x7 x8 x9 x10 x11 x12 x13 x14 x18 x19 x20 n i) k
  simp only [v102_at] at hf hb
  rw [v570_at]
  simp only [v566_at, sum_cut, v561_lo, v561_mid, v561_hi, hf, hb]
  rfl

end Cert.ReferenceIdeal.Net

end
end
-- ==== Proof.NodeLink.lean ====
/- The first stage's equation: the kernel's node rows are the reference's, and they are real numbers, under the
   precondition. -/
module

public import proofs.«01_k».proof.Proof.Finite
public import proofs.«01_k».proof.Proof.RefNode
public import proofs.«01_k».proof.Proof.RefNet

@[expose] public section

set_option maxRecDepth 16384

noncomputable section

namespace Cert.KernelIdeal.NodeLink

open Idealize.ShloMosaic Idealize.ShloMosaic.TcCoe Idealize.SL.Sem
open Cert.KernelIdeal Cert.KernelIdeal.Gen Cert.KernelIdeal.Host

/-- The first region's output at one element, over what its operands hold there. -/
theorem arr_at (x : FVec Ideal S38400x16 .f32) (wi : FVec Ideal S16x256 .f32) (b g e : FVec Ideal S1x256 .f32)
    (w : FVec Ideal S256x1024 .bf16) (ws wd : FVec Ideal S256x16 .bf16) (r : Fin 3200) (k : Fin 1024) (q : Fin 16)
    (hq : q.val = k.val / 64) (X : Fin 12 → Fin 16 → EReal) (WI : Fin 16 → Fin 256 → EReal) (B G E WS WD W : Fin 256 → EReal)
    (hx : ∀ i l, x (ix2 ⟨r.val * 12 + i.val, by omega⟩ l) = X i l) (hwi : ∀ l f, wi (ix2 l f) = WI l f)
    (hb : ∀ f, b (ix2 0 f) = B f) (hg : ∀ f, g (ix2 0 f) = G f) (he : ∀ f, e (ix2 0 f) = E f)
    (hws : ∀ f, ws (ix2 f q) = WS f) (hwd : ∀ f, wd (ix2 f q) = WD f) (hw : ∀ f, w (ix2 f k) = W f) :
    Node.arr x wi b g e w ws wd (ix2 r k)
      = Spec.nodeK Node.slope (fun i => Spec.normK (Spec.lin (X i) WI B) G E) WS WD W := by
  obtain rfl : q = ⟨k.val / 64, by clear hq; omega⟩ := Fin.ext hq
  obtain rfl : X = _ := (funext fun i => funext fun l => hx i l).symm
  obtain rfl : WI = _ := (funext fun l => funext fun f => hwi l f).symm
  obtain rfl : B = _ := (funext hb).symm
  obtain rfl : G = _ := (funext hg).symm
  obtain rfl : E = _ := (funext he).symm
  obtain rfl : WS = _ := (funext hws).symm
  obtain rfl : WD = _ := (funext hwd).symm
  obtain rfl : W = _ := (funext hw).symm
  rfl

/-- The kernel's slope is a real number. -/
theorem slope_val : Node.slope = ((13421773 / 67108864 : ℝ) : EReal) := by
  refine (IdealRules.named_const.ideal_named_scalar _ _ _ _ rfl).trans ?_
  norm_num

/-- The two programs' slopes are one number. -/
theorem slope_eq : Cert.ReferenceIdeal.Node.slope = Node.slope := by
  rw [slope_val]
  simp [Cert.ReferenceIdeal.Node.slope, Ideal.ofBits, Ideal.ieee, -EReal.coe_mul]
  norm_num

variable (m : (ℓ : Loc nD τ sig) → Buf (Elt Ideal) ℓ) (ρ : Dev nD → PrngReg) (c : Dev nD)

/-- The reference's hidden row, over the arguments as launched. -/
abbrev hid (b : Fin 16) (s : Fin 200) : Fin 12 → Fin 256 → EReal :=
  Cert.ReferenceIdeal.Node.hid (a0 m c) (a2 m c) (a3 m c) (a4 m c) (a5 m c) b s

/-- The kernel's hidden row, over the arguments as launched. -/
def hidK (b : Fin 16) (s : Fin 200) (i : Fin 12) : Fin 256 → EReal :=
  Spec.normK (Spec.lin (fun k => a0 m c (ix3 b s ⟨i.val * 16 + k.val, by omega⟩)) (fun k f => a2 m c (ix2 k f)) (fun f => a3 m c (ix1 f)))
    (fun f => a4 m c (ix1 f)) (fun f => a5 m c (ix1 f))

/-- The two hidden rows agree and are real. -/
theorem hid_eq (hpre : @Cert.Pre_KernelIdeal_finite Cert.Frames.preFacts m) (b : Fin 16) (s : Fin 200) (i : Fin 12) (f : Fin 256) :
    hidK m c b s i f = hid m c b s i f ∧ Spec.IsReal (hid m c b s i f) :=
  Spec.norm_eq _ _ _
    (fun f => (Spec.IsReal.sum fun k => (Finite.real0 m c hpre _).mul (Finite.real2 m c hpre _)).add (Finite.real3 m c hpre _))
    (fun f => Finite.real4 m c hpre _) (fun f => Finite.real5 m c hpre _) f

/-- The kernel's node row at a column of the first eight heads. -/
theorem nodes_lo (b : Fin 16) (s : Fin 200) (h : Fin 8) (o : Fin 64) :
    nodes m ρ c (ix2 ⟨b.val * 200 + s.val, by omega⟩ ⟨h.val * 64 + o.val, by omega⟩)
      = Spec.nodeK Node.slope (hidK m c b s) (fun f => ∑ o, a7 m c (ix2 h o) * a6 m c (ix3 h f o))
          (fun f => ∑ o, a8 m c (ix2 h o) * a6 m c (ix3 h f o)) (fun f => a6 m c (ix3 h f o)) :=
  arr_at _ _ _ _ _ _ _ _ _ _ ⟨h.val, by omega⟩ (by show h.val = (h.val * 64 + o.val) / 64; omega) _ _ _ _ _ _ _ _
    (fun i l => v18_at m ρ c b s i l _ rfl) (fun l f => congrFun (arg2_eq m ρ c) (ix2 l f)) (v19_at m ρ c) (v20_at m ρ c) (v21_at m ρ c)
    (fun f => v16_lo m ρ c f h) (fun f => v17_lo m ρ c f h) (fun f => v15_lo m ρ c f h o)

/-- The kernel's node row at a column of the last eight heads. -/
theorem nodes_hi (b : Fin 16) (s : Fin 200) (h : Fin 8) (o : Fin 64) :
    nodes m ρ c (ix2 ⟨b.val * 200 + s.val, by omega⟩ ⟨512 + (h.val * 64 + o.val), by omega⟩)
      = Spec.nodeK Node.slope (hidK m c b s) (fun f => ∑ o, a10 m c (ix2 h o) * a9 m c (ix3 h f o))
          (fun f => ∑ o, a11 m c (ix2 h o) * a9 m c (ix3 h f o)) (fun f => a9 m c (ix3 h f o)) :=
  arr_at _ _ _ _ _ _ _ _ _ _ ⟨8 + h.val, by omega⟩ (by show 8 + h.val = (512 + (h.val * 64 + o.val)) / 64; omega) _ _ _ _ _ _ _ _
    (fun i l => v18_at m ρ c b s i l _ rfl) (fun l f => congrFun (arg2_eq m ρ c) (ix2 l f)) (v19_at m ρ c) (v20_at m ρ c) (v21_at m ρ c)
    (fun f => v16_hi m ρ c f h) (fun f => v17_hi m ρ c f h) (fun f => v15_hi m ρ c f h o)

/-- The largest score of a row is real when the hidden rows and the head's weights are. -/
theorem top_real (hpre : @Cert.Pre_KernelIdeal_finite Cert.Frames.preFacts m) (b : Fin 16) (s : Fin 200)
    (x6 : FVec Ideal S8x256x64 .f32) (x7 x8 : FVec Ideal S8x64 .f32) (h6 : ∀ i, Spec.IsReal (x6 i)) (h7 : ∀ i, Spec.IsReal (x7 i))
    (h8 : ∀ i, Spec.IsReal (x8 i)) (h : Fin 8) (i : Fin 12) :
    Spec.IsReal (Cert.ReferenceIdeal.Node.top (a0 m c) (a2 m c) (a3 m c) (a4 m c) (a5 m c) x6 x7 x8 b s h i) := by
  rw [Cert.ReferenceIdeal.Node.top_eq]
  refine Spec.fold_real _ fun j => Spec.leaky_real ⟨_, slope_eq.trans slope_val⟩ ?_
  exact (Spec.IsReal.sum fun o => (h7 _).mul (Spec.proj_real (fun i f => (hid_eq m c hpre b s i f).2) (fun f => h6 _) i)).add
    (Spec.IsReal.sum fun o => (h8 _).mul (Spec.proj_real (fun i f => (hid_eq m c hpre b s i f).2) (fun f => h6 _) j))

/-- A head's output in the kernel's order is the one in the reference's order. -/
theorem head_eq (hpre : @Cert.Pre_KernelIdeal_finite Cert.Frames.preFacts m) (b : Fin 16) (s : Fin 200)
    (x6 : FVec Ideal S8x256x64 .f32) (x7 x8 : FVec Ideal S8x64 .f32) (h6 : ∀ i, Spec.IsReal (x6 i)) (h7 : ∀ i, Spec.IsReal (x7 i))
    (h8 : ∀ i, Spec.IsReal (x8 i)) (h : Fin 8) (o : Fin 64) :
    Spec.nodeK Node.slope (hidK m c b s) (fun f => ∑ o, x7 (ix2 h o) * x6 (ix3 h f o))
        (fun f => ∑ o, x8 (ix2 h o) * x6 (ix3 h f o)) (fun f => x6 (ix3 h f o))
      = Spec.nodeR Cert.ReferenceIdeal.Node.slope (hid m c b s) (fun f o => x6 (ix3 h f o)) (fun o => x7 (ix2 h o)) (fun o => x8 (ix2 h o))
          (Cert.ReferenceIdeal.Node.top (a0 m c) (a2 m c) (a3 m c) (a4 m c) (a5 m c) x6 x7 x8 b s h) o
    ∧ Spec.IsReal (Spec.nodeR Cert.ReferenceIdeal.Node.slope (hid m c b s) (fun f o => x6 (ix3 h f o)) (fun o => x7 (ix2 h o)) (fun o => x8 (ix2 h o))
          (Cert.ReferenceIdeal.Node.top (a0 m c) (a2 m c) (a3 m c) (a4 m c) (a5 m c) x6 x7 x8 b s h) o) := by
  have e : hidK m c b s = hid m c b s := funext fun i => funext fun f => (hid_eq m c hpre b s i f).1
  rw [e, slope_eq]
  exact Spec.node_eq Node.slope (hid m c b s) (fun f o => x6 (ix3 h f o)) (fun o => x7 (ix2 h o)) (fun o => x8 (ix2 h o)) _
    ⟨_, slope_val⟩ (fun i f => (hid_eq m c hpre b s i f).2) (fun f o => h6 _) (fun o => h7 _) (fun o => h8 _)
    (fun i => top_real m c hpre b s x6 x7 x8 h6 h7 h8 h i) o

/-- The reference's node rows, over the arguments as launched. -/
abbrev rows (b : Fin 16) : Fin 200 → Fin 1024 → EReal :=
  Cert.ReferenceIdeal.Net.rows (a0 m c) (a2 m c) (a3 m c) (a4 m c) (a5 m c) (a6 m c) (a7 m c) (a8 m c) (a9 m c) (a10 m c) (a11 m c) b

/-- The kernel's node rows are the reference's, and real. -/
theorem rows_eq (hpre : @Cert.Pre_KernelIdeal_finite Cert.Frames.preFacts m) (b : Fin 16) (s : Fin 200) (k : Fin 1024) :
    nodes m ρ c (ix2 ⟨b.val * 200 + s.val, by omega⟩ k) = rows m c b s k ∧ Spec.IsReal (rows m c b s k) := by
  rcases Nat.lt_or_ge k.val 512 with hk | hk
  · obtain ⟨h, o, rfl⟩ : ∃ (h : Fin 8) (o : Fin 64), k = ⟨h.val * 64 + o.val, by clear hk; omega⟩ :=
      ⟨⟨k.val / 64, by omega⟩, ⟨k.val % 64, by omega⟩, Fin.ext (by show k.val = k.val / 64 * 64 + k.val % 64; omega)⟩
    have e := head_eq m c hpre b s (a6 m c) (a7 m c) (a8 m c) (Finite.real6 m c hpre) (Finite.real7 m c hpre) (Finite.real8 m c hpre) h o
    have r := Cert.ReferenceIdeal.Node.v85_lo (a0 m c) (a2 m c) (a3 m c) (a4 m c) (a5 m c) (a6 m c) (a7 m c) (a8 m c) b s (a9 m c) (a10 m c) (a11 m c) h o
    exact ⟨(nodes_lo m ρ c b s h o).trans (e.1.trans r.symm), by unfold rows Cert.ReferenceIdeal.Net.rows; rw [r]; exact e.2⟩
  · obtain ⟨h, o, rfl⟩ : ∃ (h : Fin 8) (o : Fin 64), k = ⟨512 + (h.val * 64 + o.val), by clear hk; omega⟩ :=
      ⟨⟨(k.val - 512) / 64, by omega⟩, ⟨(k.val - 512) % 64, by omega⟩,
        Fin.ext (by show k.val = 512 + ((k.val - 512) / 64 * 64 + (k.val - 512) % 64); omega)⟩
    have e := head_eq m c hpre b s (a9 m c) (a10 m c) (a11 m c) (Finite.real9 m c hpre) (Finite.real10 m c hpre) (Finite.real11 m c hpre) h o
    have r := Cert.ReferenceIdeal.Node.v85_hi (a0 m c) (a2 m c) (a3 m c) (a4 m c) (a5 m c) (a6 m c) (a7 m c) (a8 m c) b s (a9 m c) (a10 m c) (a11 m c) h o
    exact ⟨(nodes_hi m ρ c b s h o).trans (e.1.trans r.symm), by unfold rows Cert.ReferenceIdeal.Net.rows; rw [r]; exact e.2⟩

end Cert.KernelIdeal.NodeLink

end
end
-- ==== Proof.NetPay.lean ====
/- The body of the second region, read at one element of the block it stores: the aggregations, the steps of the
   recurrent unit and the head are each recognised in the body's values and read once. -/
module

public import proofs.«01_k».proof.Proof.Gen.KernelIdeal.Skeleton
public import proofs.«01_k».proof.Proof.NetSpec
public import Idealize.ShloMosaic.Lib.Pointwise

@[expose] public section

set_option maxRecDepth 16384

noncomputable section

namespace Cert.KernelIdeal.Net

open Idealize.ShloMosaic Idealize.ShloMosaic.TcCoe Idealize.SL.Sem
open Cert.KernelIdeal Cert.KernelIdeal.Gen

/-! ## One step of the recurrent unit -/

/-- One step on a whole block of rows, as the body computes it. -/
def step (x : FVec Ideal S200x256 .f32) (w : FVec Ideal S3x256x128 .f32) (u : FVec Ideal S3x128x128 .f32)
    (b : FVec Ideal S3x1x128 .f32) (h : FVec Ideal S200x128 .f32) : FVec Ideal S200x128 .f32 :=
  k1_pay30 x w u b h (k1_pay28 x w) (k1_pay29 u) (constant S200x128 .f32 0x00000000#32)

/-- One step of a block, at one element. -/
theorem step_at (x : FVec Ideal S200x256 .f32) (w : FVec Ideal S3x256x128 .f32) (u : FVec Ideal S3x128x128 .f32)
    (b : FVec Ideal S3x1x128 .f32) (h : FVec Ideal S200x128 .f32) (i : Fin 200) (o : Fin 128) :
    step x w u b h (ix2 i o)
      = Spec.gru (fun g k o => w (ix3 g k o)) (fun g k o => u (ix3 g k o)) (fun g o => b (ix3 g 0 o))
          (fun k => x (ix2 i k)) (fun k => h (ix2 i k)) o := by
  pointwise [step, k1_pay30, k1_pay28, k1_pay29]
  rfl

variable (x m0 m1 m2 m3 : FVec Ideal S200x256 .f32) (w wb : FVec Ideal S3x256x128 .f32) (u ub : FVec Ideal S3x128x128 .f32)
  (b bb : FVec Ideal S3x1x128 .f32) (h : FVec Ideal S200x128 .f32)

/-- The first step of the forward pass. -/
theorem fwd1 : k1_pay15 x w u (k1_pay11 b) k1_pay12 (k1_pay13 x w u b) (k1_pay14 w)
    = step x w u (k1_pay11 b) k1_pay12 := rfl

/-- The second step of the forward pass. -/
theorem fwd2 (h1 z1 : FVec Ideal S200x128 .f32) (h78 : FVec Ideal S256x128 .f32)
    (hh : k1_pay15 m0 w u b h z1 h78 = h1) :
    k1_pay18 m1 w u b h1 (k1_pay16 m0 m1 w u b h z1 h78) (k1_pay17 m0 m1 w u b h z1 h78) = step m1 w u b h1 := by
  subst hh; rfl

/-- The third and fourth steps of the forward pass. -/
theorem fwd4 (z c : FVec Ideal S200x128 .f32) (h2 : FVec Ideal S200x128 .f32)
    (hh : k1_pay18 m1 w u b h z c = h2) :
    k1_pay21 m3 w u b h2 (k1_pay19 m1 m2 w u b h z c) (k1_pay20 m1 m2 w u b h z c)
      = step m3 w u b (step m2 w u b h2) := by
  subst hh; rfl

/-- The first two steps of the backward pass. -/
theorem bwd2 : k1_pay27 m2 w u (k1_pay22 b) k1_pay23 (k1_pay24 m3 w u b) (k1_pay25 m3 w u b) k1_pay26
    = step m2 w u (k1_pay22 b) (step m3 w u (k1_pay22 b) k1_pay23) := rfl

/-! ## The aggregations -/

/-- The reshaped bias of the recurrent unit is the bias. -/
theorem pay11_eq : k1_pay11 (F := Ideal) b = b := by
  funext j; pointwise [k1_pay11]

/-- A whole load is the operand itself. -/
theorem pay22_eq : k1_pay22 (F := Ideal) b = b := by
  funext j; pointwise [k1_pay22]

section agg

variable (d : FVec Ideal S1x200x1024 .f32) (a : FVec Ideal S4x200x200 .f32) (ws wn : FVec Ideal S1024x256 .f32)
  (c : FVec Ideal S1x256 .f32) (i : Fin 200) (o : Fin 256)

/-- The aggregation over the first graph. -/
theorem agg0_at : k1_pay5 (F := Ideal) d a ws c wn (ix2 i o)
    = Spec.aggK (fun n => a (ix3 0 i n)) (fun n k => d (ix3 0 n k)) (fun k => d (ix3 0 i k))
        (fun k o => wn (ix2 k o)) (fun k o => ws (ix2 k o)) (fun o => c (ix2 0 o)) o := by
  pointwise [k1_pay5, k1_pay2, k1_pay3, k1_pay4]
  rfl

/-- The aggregation over the second graph. -/
theorem agg1_at : k1_pay8 (F := Ideal) (k1_pay6 d a ws c wn) k1_pay7 (ix2 i o)
    = Spec.aggK (fun n => a (ix3 1 i n)) (fun n k => d (ix3 0 n k)) (fun k => d (ix3 0 i k))
        (fun k o => wn (ix2 k o)) (fun k o => ws (ix2 k o)) (fun o => c (ix2 0 o)) o := by
  pointwise [k1_pay8, k1_pay7, k1_pay6, k1_pay2, k1_pay3, k1_pay4]
  rfl

/-- The aggregation over the third graph. -/
theorem agg2_at : k1_pay9 (F := Ideal) (k1_pay2 d) a (k1_pay3 a) (k1_pay4 d ws c) wn (ix2 i o)
    = Spec.aggK (fun n => a (ix3 2 i n)) (fun n k => d (ix3 0 n k)) (fun k => d (ix3 0 i k))
        (fun k o => wn (ix2 k o)) (fun k o => ws (ix2 k o)) (fun o => c (ix2 0 o)) o := by
  pointwise [k1_pay9, k1_pay2, k1_pay3, k1_pay4]
  rfl

/-- The aggregation over the fourth graph. -/
theorem agg3_at : k1_pay10 (F := Ideal) (k1_pay2 d) a (k1_pay3 a) (k1_pay4 d ws c) wn (ix2 i o)
    = Spec.aggK (fun n => a (ix3 3 i n)) (fun n k => d (ix3 0 n k)) (fun k => d (ix3 0 i k))
        (fun k o => wn (ix2 k o)) (fun k o => ws (ix2 k o)) (fun o => c (ix2 0 o)) o := by
  pointwise [k1_pay10, k1_pay2, k1_pay3, k1_pay4]
  rfl

end agg

/-! ## The head -/

/-- The last step of the backward pass sits in the head's value: the head over the block of node rows, the forward
    state and the backward state `hb`. -/
def headBlock (v1 : FVec Ideal S200x1024 .f32) (hf hb : FVec Ideal S200x128 .f32) (w1 : FVec Ideal S1024x256 .f32)
    (w1f w1b : FVec Ideal S128x256 .f32) (b1 : FVec Ideal S1x256 .f32) : FVec Ideal S200x256 .f32 :=
  maximumf (addf (addf (addf
    (matmul dot_S200x1024_S1024x256_S200x256_1_0_0_1_n_n none v1 (shapeCast S1024x256 w1 shapeCasts_S1024x256_S1024x256) (constant S200x256 .f32 0x00000000#32))
    (matmul dot_S200x128_S128x256_S200x256_1_0_0_1_n_n none hf (shapeCast S128x256 w1f shapeCasts_S128x256_S128x256) (constant S200x256 .f32 0x00000000#32)))
    (matmul dot_S200x128_S128x256_S200x256_1_0_0_1_n_n none hb (shapeCast S128x256 w1b shapeCasts_S128x256_S128x256) (constant S200x256 .f32 0x00000000#32)))
    (broadcastTo S200x256 (shapeCast S1x256 b1 shapeCasts_S1x256_S1x256) broadcasts_S1x256_S200x256))
    (broadcast S200x256 (Scalar.ofBits .f32 0x00000000#32))

/-- The head's hidden layer is `headBlock` at the last two steps of the backward pass. -/
theorem head_step (v1 : FVec Ideal S200x1024 .f32) (hf : FVec Ideal S200x128 .f32) (w1 : FVec Ideal S1024x256 .f32)
    (w1f w1b : FVec Ideal S128x256 .f32) (b1 : FVec Ideal S1x256 .f32) :
    k1_pay33 v1 m0 hf w u b
        (k1_pay30 m1 w u b h (k1_pay28 m1 w) (k1_pay29 u) (constant S200x128 .f32 0x00000000#32))
        (k1_pay31 m0 m1 w u b h (k1_pay28 m1 w) (k1_pay29 u) (constant S200x128 .f32 0x00000000#32))
        (k1_pay32 m0 w) w1 w1f w1b b1
      = headBlock v1 hf (step m0 w u b (step m1 w u b h)) w1 w1f w1b b1 := rfl

/-- The stored block at one element. -/
theorem out_at (d : FVec Ideal S1x200x1024 .f32) (hf hb : FVec Ideal S200x128 .f32) (w1 : FVec Ideal S1024x256 .f32)
    (w1f w1b : FVec Ideal S128x256 .f32) (b1 : FVec Ideal S1x256 .f32) (w2 : FVec Ideal S256x8 .f32) (b2 : FVec Ideal S1x8 .f32)
    (i : Fin 200) (q : Fin 8) :
    k1_pay1 (headBlock (k1_pay2 d) hf hb w1 w1f w1b b1) w2 b2 (ix3 0 i q)
      = Spec.head (fun k o => w1 (ix2 k o)) (fun k o => w1f (ix2 k o)) (fun k o => w1b (ix2 k o)) (fun o => b1 (ix2 0 o))
          (fun o q => w2 (ix2 o q)) (fun q => b2 (ix2 0 q)) (fun k => d (ix3 0 i k)) (fun k => hf (ix2 i k))
          (fun k => hb (ix2 i k)) q := by
  pointwise [k1_pay1, headBlock, k1_pay2]
  rfl

end Cert.KernelIdeal.Net

end
end
-- ==== Proof.NetArr.lean ====
/- The second region's output array: every block is the second stage of one batch entry, so the array the region
   leaves is the second stage of its operands. -/
module

public import proofs.«01_k».proof.Proof.Gen.KernelIdeal.Frame
public import proofs.«01_k».proof.Proof.NetPay
public import Idealize.ShloMosaic.Lib.Pipeline.ValueKit

@[expose] public section

set_option maxRecDepth 16384

noncomputable section

namespace Cert.KernelIdeal.Net

open Idealize.ShloMosaic Idealize.ShloMosaic.TcCoe Idealize.SL.Sem
open Idealize.ShloMosaic.Pipeline (Dat)
open Cert.KernelIdeal Cert.KernelIdeal.Gen

/-- The second stage's array, over its seventeen operands. -/
def arr (d : FVec Ideal S16x200x1024 .f32) (a : FVec Ideal S4x200x200 .f32) (ws wn : FVec Ideal S1024x256 .f32)
    (c : FVec Ideal S1x256 .f32) (wf : FVec Ideal S3x256x128 .f32) (uf : FVec Ideal S3x128x128 .f32) (bf : FVec Ideal S3x1x128 .f32)
    (wb : FVec Ideal S3x256x128 .f32) (ub : FVec Ideal S3x128x128 .f32) (bb : FVec Ideal S3x1x128 .f32)
    (w1 : FVec Ideal S1024x256 .f32) (w1f w1b : FVec Ideal S128x256 .f32) (b1 : FVec Ideal S1x256 .f32)
    (w2 : FVec Ideal S256x8 .f32) (b2 : FVec Ideal S1x8 .f32) : FVec Ideal S16x200x8 .f32 := fun j =>
  Spec.net Spec.aggK (fun l i n => a (ix3 l i n)) (fun k o => wn (ix2 k o)) (fun k o => ws (ix2 k o)) (fun o => c (ix2 0 o))
    (fun g k o => wf (ix3 g k o)) (fun g k o => uf (ix3 g k o)) (fun g o => bf (ix3 g 0 o))
    (fun g k o => wb (ix3 g k o)) (fun g k o => ub (ix3 g k o)) (fun g o => bb (ix3 g 0 o))
    (fun k o => w1 (ix2 k o)) (fun k o => w1f (ix2 k o)) (fun k o => w1b (ix2 k o)) (fun o => b1 (ix2 0 o))
    (fun o q => w2 (ix2 o q)) (fun q => b2 (ix2 0 q)) (fun n k => d (ix3 (j 0) n k)) (j 1) (j 2)

/-- Four steps of a block from the zero state, at one element. -/
theorem four_at (x0 x1 x2 x3 : FVec Ideal S200x256 .f32) (w : FVec Ideal S3x256x128 .f32) (u : FVec Ideal S3x128x128 .f32)
    (b : FVec Ideal S3x1x128 .f32) (z : FVec Ideal S200x128 .f32) (hz : ∀ i k, z (ix2 i k) = 0) (i : Fin 200) (o : Fin 128) :
    step x3 w u b (step x2 w u b (step x1 w u b (step x0 w u b z))) (ix2 i o)
      = Spec.gru4 (fun g k o => w (ix3 g k o)) (fun g k o => u (ix3 g k o)) (fun g o => b (ix3 g 0 o))
          (fun k => x0 (ix2 i k)) (fun k => x1 (ix2 i k)) (fun k => x2 (ix2 i k)) (fun k => x3 (ix2 i k)) o := by
  simp only [step_at, hz, Spec.gru4]

/-- The forward pass's zero state. -/
theorem zero_fwd (i : Fin 200) (k : Fin 128) : k1_pay12 (F := Ideal) (ix2 i k) = 0 := by pointwise [k1_pay12]

/-- The backward pass's zero state. -/
theorem zero_bwd (i : Fin 200) (k : Fin 128) : k1_pay23 (F := Ideal) (ix2 i k) = 0 := by pointwise [k1_pay23]

/-- The stored block at one element, over the seventeen blocks read. -/
theorem block_at (d : FVec Ideal S1x200x1024 .f32) (a : FVec Ideal S4x200x200 .f32) (ws wn : FVec Ideal S1024x256 .f32)
    (c : FVec Ideal S1x256 .f32) (wf : FVec Ideal S3x256x128 .f32) (uf : FVec Ideal S3x128x128 .f32) (bf : FVec Ideal S3x1x128 .f32)
    (wb : FVec Ideal S3x256x128 .f32) (ub : FVec Ideal S3x128x128 .f32) (bb : FVec Ideal S3x1x128 .f32)
    (w1 : FVec Ideal S1024x256 .f32) (w1f w1b : FVec Ideal S128x256 .f32) (b1 : FVec Ideal S1x256 .f32)
    (w2 : FVec Ideal S256x8 .f32) (b2 : FVec Ideal S1x8 .f32) (z : Fin 1) (i : Fin 200) (q : Fin 8) :
    out1_17 (F := Ideal) d a ws wn c wf uf bf wb ub bb w1 w1f w1b b1 w2 b2 (ix3 z i q)
      = Spec.net Spec.aggK (fun l i n => a (ix3 l i n)) (fun k o => wn (ix2 k o)) (fun k o => ws (ix2 k o)) (fun o => c (ix2 0 o))
          (fun g k o => wf (ix3 g k o)) (fun g k o => uf (ix3 g k o)) (fun g o => bf (ix3 g 0 o))
          (fun g k o => wb (ix3 g k o)) (fun g k o => ub (ix3 g k o)) (fun g o => bb (ix3 g 0 o))
          (fun k o => w1 (ix2 k o)) (fun k o => w1f (ix2 k o)) (fun k o => w1b (ix2 k o)) (fun o => b1 (ix2 0 o))
          (fun o q => w2 (ix2 o q)) (fun q => b2 (ix2 0 q)) (fun n k => d (ix3 0 n k)) i q := by
  obtain rfl : z = 0 := Subsingleton.elim _ _
  unfold_out out1_17; frame_out
  rw [head_step, bwd2, fwd4 (hh := rfl), fwd2 (hh := rfl), fwd1, pay11_eq, pay22_eq]
  refine (out_at _ _ _ _ _ _ _ _ _ i q).trans ?_
  simp only [four_at _ _ _ _ _ _ _ _ zero_fwd, four_at _ _ _ _ _ _ _ _ zero_bwd, agg0_at, agg1_at, agg2_at, agg3_at]
  rfl

/-- Every window's block position: the first and the last move with the grid, the others stay. -/
theorem idx : ∀ t : Fin cfg1.N, win1_0.index t = ![t.val, 0, 0]
    ∧ win1_1.index t = ![0, 0, 0]
    ∧ win1_2.index t = ![0, 0]
    ∧ win1_3.index t = ![0, 0]
    ∧ win1_4.index t = ![0, 0]
    ∧ win1_5.index t = ![0, 0, 0]
    ∧ win1_6.index t = ![0, 0, 0]
    ∧ win1_7.index t = ![0, 0, 0]
    ∧ win1_8.index t = ![0, 0, 0]
    ∧ win1_9.index t = ![0, 0, 0]
    ∧ win1_10.index t = ![0, 0, 0]
    ∧ win1_11.index t = ![0, 0]
    ∧ win1_12.index t = ![0, 0]
    ∧ win1_13.index t = ![0, 0]
    ∧ win1_14.index t = ![0, 0]
    ∧ win1_15.index t = ![0, 0]
    ∧ win1_16.index t = ![0, 0]
    ∧ win1_17.index t = ![t.val, 0, 0] :=
  (by decide +kernel : ∀ t : Fin grid1.N, _)

variable (V : (c : Dev nD) → (b : Ref sig .tc) → Buf (Elt Ideal) ((c : Thread nD τ).loc b)) (c : Dev nD) (t : Fin cfg1.N)

/-- Operand 1 is read whole at every step. -/
theorem in1 : iblk1 V c 1 t = V c main_arg1 := by blk_ext! [iblk1, idx t]
/-- Operand 2 is read whole at every step. -/
theorem in2 : iblk1 V c 2 t = V c main_arg12 := by blk_ext! [iblk1, idx t]
/-- Operand 3 is read whole at every step. -/
theorem in3 : iblk1 V c 3 t = V c main_arg13 := by blk_ext! [iblk1, idx t]
/-- Operand 4 is read whole at every step. -/
theorem in4 : iblk1 V c 4 t = V c main_v24 := by blk_ext! [iblk1, idx t]
/-- Operand 5 is read whole at every step. -/
theorem in5 : iblk1 V c 5 t = V c main_arg15 := by blk_ext! [iblk1, idx t]
/-- Operand 6 is read whole at every step. -/
theorem in6 : iblk1 V c 6 t = V c main_arg16 := by blk_ext! [iblk1, idx t]
/-- Operand 7 is read whole at every step. -/
theorem in7 : iblk1 V c 7 t = V c main_v25 := by blk_ext! [iblk1, idx t]
/-- Operand 8 is read whole at every step. -/
theorem in8 : iblk1 V c 8 t = V c main_arg18 := by blk_ext! [iblk1, idx t]
/-- Operand 9 is read whole at every step. -/
theorem in9 : iblk1 V c 9 t = V c main_arg19 := by blk_ext! [iblk1, idx t]
/-- Operand 10 is read whole at every step. -/
theorem in10 : iblk1 V c 10 t = V c main_v26 := by blk_ext! [iblk1, idx t]
/-- Operand 11 is read whole at every step. -/
theorem in11 : iblk1 V c 11 t = V c main_v27 := by blk_ext! [iblk1, idx t]
/-- Operand 12 is read whole at every step. -/
theorem in12 : iblk1 V c 12 t = V c main_v28 := by blk_ext! [iblk1, idx t]
/-- Operand 13 is read whole at every step. -/
theorem in13 : iblk1 V c 13 t = V c main_v29 := by blk_ext! [iblk1, idx t]
/-- Operand 14 is read whole at every step. -/
theorem in14 : iblk1 V c 14 t = V c main_v30 := by blk_ext! [iblk1, idx t]
/-- Operand 15 is read whole at every step. -/
theorem in15 : iblk1 V c 15 t = V c main_arg23 := by blk_ext! [iblk1, idx t]
/-- Operand 16 is read whole at every step. -/
theorem in16 : iblk1 V c 16 t = V c main_v31 := by blk_ext! [iblk1, idx t]

/-- The block of node rows is one batch entry of the array. -/
theorem in0 (n : Fin 200) (k : Fin 1024) (h : t.val < 16) :
    (show FVec Ideal S1x200x1024 .f32 from iblk1 V c 0 t) (ix3 0 n k)
      = (show FVec Ideal S16x200x1024 .f32 from V c main_v23) (ix3 ⟨t.val, h⟩ n k) := by
  blk_ext [iblk1, idx t]

set_option maxHeartbeats 2000000 in
/-- THE BRIDGE: the output array at the region's exit. -/
theorem final : (dat1 V c).arrAt 17 cfg1.N
    = arr (V c main_v23) (V c main_arg1) (V c main_arg12) (V c main_arg13) (V c main_v24) (V c main_arg15) (V c main_arg16) (V c main_v25) (V c main_arg18) (V c main_arg19) (V c main_v26) (V c main_v27) (V c main_v28) (V c main_v29) (V c main_v30) (V c main_arg23) (V c main_v31) := by
  refine (dat1 V c).arrAt_eq_of_covers 17 _ (by decide +kernel) fun t _ y => ?_
  blk_simp
  rw [after1_17, in1, in2, in3, in4, in5, in6, in7, in8, in9, in10, in11, in12, in13, in14, in15, in16]
  idx_vars y
  refine (block_at _ _ _ _ _ _ _ _ _ _ _ _ _ _ _ _ _ y0 y1 y2).trans ?_
  have ht : t.val < 16 := t.isLt
  have e : (((View.whole main_v32).slice (win1_17.rect t)).emb (ix3 y0 y1 y2)) = (ix3 (⟨t.val, ht⟩ : Fin 16) y1 y2 : S16x200x8.Idx) := by
    blk_ext [idx t]
  rw [e]
  have h0 := fun (n : Fin 200) (k : Fin 1024) => in0 V c t n k ht
  simp only [h0]
  rfl

end Cert.KernelIdeal.Net

end
end
-- ==== Proof.Run.lean ====
/- The idealised kernel's run with its result: every execution ends with the result array holding the second stage of
   what the second region is entered with, and with every argument as launched. -/
module

public import proofs.«01_k».proof.Proof.Gen.KernelIdeal.Frame
public import proofs.«01_k».proof.Proof.NetArr

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with each of a core's unscoped buffers at the contents the last segment leaves. -/
theorem ends : θ_run defs (onTc (τ := τ) (main (F := Ideal))) ⟨m, fun _ => 0, ρ⟩ (fun r => ∀ c : Dev nD,
      ∀ b ∈ Pipeline.ucRefs τ sig, r.2.mem ((c : Thread nD τ).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c => h c)

/-- The result array, over what the second region is entered with. -/
def result (c : Dev nD) : FVec Ideal S16x200x8 .f32 :=
  Net.arr (V3 m ρ c main_v23) (V3 m ρ c main_arg1) (V3 m ρ c main_arg12) (V3 m ρ c main_arg13) (V3 m ρ c main_v24) (V3 m ρ c main_arg15) (V3 m ρ c main_arg16) (V3 m ρ c main_v25) (V3 m ρ c main_arg18) (V3 m ρ c main_arg19) (V3 m ρ c main_v26) (V3 m ρ c main_v27) (V3 m ρ c main_v28) (V3 m ρ c main_v29) (V3 m ρ c main_v30) (V3 m ρ c main_arg23) (V3 m ρ c main_v31)

/-- Every execution ends with the result array at `result` and every argument as launched. -/
theorem run : θ_run defs (onTc (τ := τ) (main (F := Ideal))) ⟨m, fun _ => 0, ρ⟩ (fun r => ∀ c : Dev nD,
      r.2.mem ((c.tc : Thread nD τ).loc main_v32) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c =>
    ⟨(h c _ (mem_uc main_v32 (by decide))).trans ((W4_arr m ρ c 17).trans (Net.final (V3 m ρ) c)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c),
     (h c _ (mem_uc main_arg15 (by decide))).trans (W4_main_arg15 m ρ c),
     (h c _ (mem_uc main_arg16 (by decide))).trans (W4_main_arg16 m ρ c),
     (h c _ (mem_uc main_arg17 (by decide))).trans (W4_main_arg17 m ρ c),
     (h c _ (mem_uc main_arg18 (by decide))).trans (W4_main_arg18 m ρ c),
     (h c _ (mem_uc main_arg19 (by decide))).trans (W4_main_arg19 m ρ c),
     (h c _ (mem_uc main_arg20 (by decide))).trans (W4_main_arg20 m ρ c),
     (h c _ (mem_uc main_arg21 (by decide))).trans (W4_main_arg21 m ρ c),
     (h c _ (mem_uc main_arg22 (by decide))).trans (W4_main_arg22 m ρ c),
     (h c _ (mem_uc main_arg23 (by decide))).trans (W4_main_arg23 m ρ c),
     (h c _ (mem_uc main_arg24 (by decide))).trans (W4_main_arg24 m ρ c)⟩) (ends m ρ)

end Cert.KernelIdeal.Run

end
end
-- ==== Proof.Equation.lean ====
/- The equation: under the precondition, the kernel's result array is the reference's, over the arguments as launched. -/
module

public import proofs.«01_k».proof.Proof.NodeLink
public import proofs.«01_k».proof.Proof.Run

@[expose] public section

set_option maxRecDepth 16384

noncomputable section

namespace Cert.KernelIdeal.Equation

open Idealize.ShloMosaic Idealize.ShloMosaic.TcCoe Idealize.SL.Sem
open Cert.KernelIdeal Cert.KernelIdeal.Gen Cert.KernelIdeal.Host

/-- The second region's output at one element, over what its operands hold. -/
theorem arr_at (d : FVec Ideal S16x200x1024 .f32) (a : FVec Ideal S4x200x200 .f32) (ws wn : FVec Ideal S1024x256 .f32)
    (c : FVec Ideal S1x256 .f32) (wf : FVec Ideal S3x256x128 .f32) (uf : FVec Ideal S3x128x128 .f32) (bf : FVec Ideal S3x1x128 .f32)
    (wb : FVec Ideal S3x256x128 .f32) (ub : FVec Ideal S3x128x128 .f32) (bb : FVec Ideal S3x1x128 .f32)
    (w1 : FVec Ideal S1024x256 .f32) (w1f w1b : FVec Ideal S128x256 .f32) (b1 : FVec Ideal S1x256 .f32)
    (w2 : FVec Ideal S256x8 .f32) (b2 : FVec Ideal S1x8 .f32) (n : Fin 16) (i : Fin 200) (q : Fin 8)
    (D : Fin 200 → Fin 1024 → EReal) (A : FVec Ideal S4x200x200 .f32) (WS WN : FVec Ideal S1024x256 .f32) (C : Fin 256 → EReal)
    (WF : FVec Ideal S3x256x128 .f32) (UF : FVec Ideal S3x128x128 .f32) (BF : Fin 3 → Fin 128 → EReal)
    (WB : FVec Ideal S3x256x128 .f32) (UB : FVec Ideal S3x128x128 .f32) (BB : Fin 3 → Fin 128 → EReal)
    (W1 : Fin 1024 → Fin 256 → EReal) (W1F W1B : Fin 128 → Fin 256 → EReal) (B1 : Fin 256 → EReal)
    (W2 : FVec Ideal S256x8 .f32) (B2 : Fin 8 → EReal)
    (hd : ∀ j k, d (ix3 n j k) = D j k) (ha : a = A) (hws : ws = WS) (hwn : wn = WN) (hc : ∀ o, c (ix2 0 o) = C o)
    (hwf : wf = WF) (huf : uf = UF) (hbf : ∀ g o, bf (ix3 g 0 o) = BF g o)
    (hwb : wb = WB) (hub : ub = UB) (hbb : ∀ g o, bb (ix3 g 0 o) = BB g o)
    (hw1 : ∀ k o, w1 (ix2 k o) = W1 k o) (hw1f : ∀ k o, w1f (ix2 k o) = W1F k o) (hw1b : ∀ k o, w1b (ix2 k o) = W1B k o)
    (hb1 : ∀ o, b1 (ix2 0 o) = B1 o) (hw2 : w2 = W2) (hb2 : ∀ q, b2 (ix2 0 q) = B2 q) :
    Net.arr d a ws wn c wf uf bf wb ub bb w1 w1f w1b b1 w2 b2 (ix3 n i q)
      = Spec.net Spec.aggK (fun l i j => A (ix3 l i j)) (fun k o => WN (ix2 k o)) (fun k o => WS (ix2 k o)) C
          (fun g k o => WF (ix3 g k o)) (fun g k o => UF (ix3 g k o)) BF (fun g k o => WB (ix3 g k o)) (fun g k o => UB (ix3 g k o)) BB
          W1 W1F W1B B1 (fun o q => W2 (ix2 o q)) B2 D i q := by
  subst ha hws hwn hwf huf hwb hub hw2
  obtain rfl : D = _ := (funext fun j => funext fun k => hd j k).symm
  obtain rfl : C = _ := (funext hc).symm
  obtain rfl : BF = _ := (funext fun g => funext fun o => hbf g o).symm
  obtain rfl : BB = _ := (funext fun g => funext fun o => hbb g o).symm
  obtain rfl : W1 = _ := (funext fun k => funext fun o => hw1 k o).symm
  obtain rfl : W1F = _ := (funext fun k => funext fun o => hw1f k o).symm
  obtain rfl : W1B = _ := (funext fun k => funext fun o => hw1b k o).symm
  obtain rfl : B1 = _ := (funext hb1).symm
  obtain rfl : B2 = _ := (funext hb2).symm
  rfl

variable (m : (ℓ : Loc nD τ sig) → Buf (Elt Ideal) ℓ) (ρ : Dev nD → PrngReg) (c : Dev nD)

/-- The reference's result, over the arguments as launched. -/
def answer : FVec Ideal S16x200x8 .f32 :=
  Cert.ReferenceIdeal.Read.val_main_v570 (F := Ideal) (a0 m c) (a1 m c) (a2 m c) (a3 m c) (a4 m c) (a5 m c) (a6 m c) (a7 m c) (a8 m c)
    (a9 m c) (a10 m c) (a11 m c) (a12 m c) (a13 m c) (a14 m c) (a15 m c) (a16 m c) (a17 m c) (a18 m c) (a19 m c) (a20 m c) (a21 m c)
    (a22 m c) (a23 m c) (a24 m c)

/-- The kernel's result at one element: the second stage in the kernel's order over the reference's node rows. -/
theorem result_at (hpre : @Cert.Pre_KernelIdeal_finite Cert.Frames.preFacts m) (n : Fin 16) (i : Fin 200) (q : Fin 8) :
    Run.result m ρ c (ix3 n i q)
      = Spec.net Spec.aggK (fun l i j => a1 m c (ix3 l i j)) (fun k o => a13 m c (ix2 k o)) (fun k o => a12 m c (ix2 k o)) (fun o => a14 m c (ix1 o))
          (fun g k o => a15 m c (ix3 g k o)) (fun g k o => a16 m c (ix3 g k o)) (fun g o => a17 m c (ix2 g o))
          (fun g k o => a18 m c (ix3 g k o)) (fun g k o => a19 m c (ix3 g k o)) (fun g o => a20 m c (ix2 g o))
          (fun k o => a21 m c (ix2 ⟨k.val, by omega⟩ o)) (fun k o => a21 m c (ix2 ⟨1024 + k.val, by omega⟩ o))
          (fun k o => a21 m c (ix2 ⟨1152 + k.val, by omega⟩ o)) (fun o => a22 m c (ix1 o))
          (fun o q => a23 m c (ix2 o q)) (fun q => a24 m c (ix1 q)) (NodeLink.rows m c n) i q :=
  arr_at _ _ _ _ _ _ _ _ _ _ _ _ _ _ _ _ _ n i q _ _ _ _ _ _ _ _ _ _ _ _ _ _ _ _ _
    (fun j k => (v23_at m ρ c n j k).trans (NodeLink.rows_eq m ρ c hpre n j k).1) (arg1_eq m ρ c) (arg12_eq m ρ c) (arg13_eq m ρ c)
    (v24_at m ρ c) (arg15_eq m ρ c) (arg16_eq m ρ c) (v25_at m ρ c) (arg18_eq m ρ c) (arg19_eq m ρ c) (v26_at m ρ c)
    (v27_at m ρ c) (v28_at m ρ c) (v29_at m ρ c) (v30_at m ρ c) (arg23_eq m ρ c) (v31_at m ρ c)

/-- Under the precondition, the two results agree at one element. -/
theorem result_eq_at (hpre : @Cert.Pre_KernelIdeal_finite Cert.Frames.preFacts m) (n : Fin 16) (i : Fin 200) (q : Fin 8) :
    Run.result m ρ c (ix3 n i q) = answer m c (ix3 n i q) :=
  (result_at m ρ c hpre n i q).trans ((Spec.net_eq _ _ _ _ _ _ _ _ _ _ _ _ _ _ _ _ _ _ _ (fun l i n => Finite.real1 m c hpre _)
    (fun j k => (NodeLink.rows_eq m ρ c hpre n j k).2) (fun l i => Finite.degree m c hpre l i)).trans
    (Cert.ReferenceIdeal.Net.net_at (a0 m c) (a1 m c) (a2 m c) (a3 m c) (a4 m c) (a5 m c) (a6 m c) (a7 m c) (a8 m c)
      (a9 m c) (a10 m c) (a11 m c) (a12 m c) (a13 m c) (a14 m c) (a15 m c) (a16 m c) (a17 m c) (a18 m c) (a19 m c) (a20 m c) (a21 m c)
      (a22 m c) (a23 m c) (a24 m c) n i q).symm)

/-- Under the precondition, the kernel's result is the reference's. -/
theorem result_eq (hpre : @Cert.Pre_KernelIdeal_finite Cert.Frames.preFacts m) : Run.result m ρ c = answer m c := by
  funext j
  rw [eq_ix3 j]
  exact result_eq_at m ρ c hpre _ _ _

end Cert.KernelIdeal.Equation

end
end
-- ==== Proof.RefRun.lean ====
/- What the reference ends holding: its result array over the arguments as launched. -/
module

public import proofs.«01_k».proof.Proof.Gen.ReferenceIdeal.Run
public import proofs.«01_k».proof.Proof.Gen.ReferenceIdeal.Read

@[expose] public section

set_option maxRecDepth 16384

noncomputable section

namespace Cert.ReferenceIdeal.RefRun

open Idealize.ShloMosaic Idealize.ShloMosaic.TcCoe Idealize.SL.Sem
open Cert.ReferenceIdeal Cert.ReferenceIdeal.Gen Cert.ReferenceIdeal.Read Idealize.ShloMosaic.StableHlo

variable (m : (ℓ : Loc nD τ sig) → Buf (Elt Ideal) ℓ) (ρ : Dev nD → PrngReg)

/-- The reference's result array, over the arguments as launched. -/
def result (c : Dev nD) : FVec Ideal S16x200x8 .f32 :=
  val_main_v570 (F := Ideal)
    (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14)) (m ((c.tc : Thread nD τ).loc main_arg15))
      (m ((c.tc : Thread nD τ).loc main_arg16)) (m ((c.tc : Thread nD τ).loc main_arg17)) (m ((c.tc : Thread nD τ).loc main_arg18)) (m ((c.tc : Thread nD τ).loc main_arg19))
      (m ((c.tc : Thread nD τ).loc main_arg20)) (m ((c.tc : Thread nD τ).loc main_arg21)) (m ((c.tc : Thread nD τ).loc main_arg22)) (m ((c.tc : Thread nD τ).loc main_arg23))
      (m ((c.tc : Thread nD τ).loc main_arg24))

/-- The result array, with each argument read from the contents at launch. -/
theorem launched (c : Dev nD) : val_main_v570 (F := Ideal)
      (launchContents m c (Proc.devRef .tc main_arg0)) (launchContents m c (Proc.devRef .tc main_arg1)) (launchContents m c (Proc.devRef .tc main_arg2))
      (launchContents m c (Proc.devRef .tc main_arg3)) (launchContents m c (Proc.devRef .tc main_arg4)) (launchContents m c (Proc.devRef .tc main_arg5))
      (launchContents m c (Proc.devRef .tc main_arg6)) (launchContents m c (Proc.devRef .tc main_arg7)) (launchContents m c (Proc.devRef .tc main_arg8))
      (launchContents m c (Proc.devRef .tc main_arg9)) (launchContents m c (Proc.devRef .tc main_arg10)) (launchContents m c (Proc.devRef .tc main_arg11))
      (launchContents m c (Proc.devRef .tc main_arg12)) (launchContents m c (Proc.devRef .tc main_arg13)) (launchContents m c (Proc.devRef .tc main_arg14))
      (launchContents m c (Proc.devRef .tc main_arg15)) (launchContents m c (Proc.devRef .tc main_arg16)) (launchContents m c (Proc.devRef .tc main_arg17))
      (launchContents m c (Proc.devRef .tc main_arg18)) (launchContents m c (Proc.devRef .tc main_arg19)) (launchContents m c (Proc.devRef .tc main_arg20))
      (launchContents m c (Proc.devRef .tc main_arg21)) (launchContents m c (Proc.devRef .tc main_arg22)) (launchContents m c (Proc.devRef .tc main_arg23))
      (launchContents m c (Proc.devRef .tc main_arg24)) = result m c := rfl

/-- Every execution ends with the result array at `result` and every argument as launched. -/
theorem run : θ_run defs (onTc (τ := τ) (main (F := Ideal))) ⟨m, fun _ => 0, ρ⟩ (fun r => ∀ c : Dev nD,
      r.2.mem ((c.tc : Thread nD τ).loc main_v570) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨(h c).1.trans ((val_main_v570_eq (F := Ideal) (launchContents m c)).trans (launched m c)), (h c).2⟩)
    (Cert.ReferenceIdeal.Value.run m ρ)

end Cert.ReferenceIdeal.RefRun

end
end
-- ==== Proof.lean ====
module

public import proofs.«01_k».proof.Defs
public import proofs.«01_k».proof.Proof.Frames
public import proofs.«01_k».proof.Proof.Equation
public import proofs.«01_k».proof.Proof.RefRun

@[expose] public section

set_option maxRecDepth 16384

noncomputable section

namespace Cert.Proof

open Idealize.ShloMosaic Idealize.SL.Sem

/-- Arguments that agree give the reference's result over the kernel's arguments. -/
theorem answer_of (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (h24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) :
    Cert.ReferenceIdeal.RefRun.result m' c = Cert.KernelIdeal.Equation.answer m c := by
  unfold Cert.ReferenceIdeal.RefRun.result Cert.KernelIdeal.Equation.answer
  rw [h0, h1, h2, h3, h4, h5, h6, h7, h8, h9, h10, h11, h12, h13, h14, h15, h16, h17, h18, h19, h20, h21, h22, h23, h24]

/-- Under the precondition, the idealized kernel and the idealized reference end with equal results. -/
theorem equation : Cert.algebraic_KernelIdeal_ReferenceIdeal_pre_finite (hKernelIdeal := Cert.KernelIdeal.Gen.facts)
    (hReferenceIdeal := Cert.ReferenceIdeal.Gen.facts) (hPre_finite := Cert.Frames.preFacts) := by
  intro m g m' g' hpre hagree
  refine ⟨fun c => Cert.KernelIdeal.Equation.answer m c, ?_, ?_⟩
  · exact (θ_run _ _ _).mono (fun _ h c => ⟨(h c).1.trans (Cert.KernelIdeal.Equation.result_eq m g c hpre), (h c).2⟩)
      (Cert.KernelIdeal.Run.run m g)
  · refine (θ_run _ _ _).mono (fun _ h c => ⟨(h c).1.trans ?_, (h c).2⟩) (Cert.ReferenceIdeal.RefRun.run m' g')
    obtain ⟨h0, h1, h2, h3, h4, h5, h6, h7, h8, h9, h10, h11, h12, h13, h14, h15, h16, h17, h18, h19, h20, h21, h22, h23, h24⟩ := hagree c
    exact answer_of m m' c h0 h1 h2 h3 h4 h5 h6 h7 h8 h9 h10 h11 h12 h13 h14 h15 h16 h17 h18 h19 h20 h21 h22 h23 h24

/-- Every claim of the certificate. -/
theorem claim : Cert.Claim :=
  ⟨Cert.Kernel.Gen.facts, Cert.KernelIdeal.Gen.facts, Cert.ReferenceIdeal.Gen.facts, Frames.preFacts, Frames.kernel, Frames.kernelIdeal,
    Frames.kernelIdealPre, Frames.referenceIdeal, Frames.referenceIdealPre, Frames.preserves, equation⟩

end Cert.Proof

end
end
